-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v28_0)) (v1 : (c : Dev Cert.Kernel2Ideal.nD) → Buf (Elt Ideal) ((c.tc : Thread Cert.Kernel2Ideal.nD Cert.Kernel2Ideal.τ).loc Cert.Kernel2Ideal.main_v28_1)) (v2 : (c : Dev Cert.Kernel2Ideal.nD) → Buf (Elt Ideal) ((c.tc : Thread Cert.Kernel2Ideal.nD Cert.Kernel2Ideal.τ).loc Cert.Kernel2Ideal.main_v28_2)) (v3 : (c : Dev Cert.Kernel2Ideal.nD) → Buf (Elt Ideal) ((c.tc : Thread Cert.Kernel2Ideal.nD Cert.Kernel2Ideal.τ).loc Cert.Kernel2Ideal.main_v28_3)) (v4 : (c : Dev Cert.Kernel2Ideal.nD) → Buf (Elt Ideal) ((c.tc : Thread Cert.Kernel2Ideal.nD Cert.Kernel2Ideal.τ).loc Cert.Kernel2Ideal.main_v28_4)) (v5 : (c : Dev Cert.Kernel2Ideal.nD) → Buf (Elt Ideal) ((c.tc : Thread Cert.Kernel2Ideal.nD Cert.Kernel2Ideal.τ).loc Cert.Kernel2Ideal.main_v28_5)) (v6 : (c : Dev Cert.Kernel2Ideal.nD) → Buf (Elt Ideal) ((c.tc : Thread Cert.Kernel2Ideal.nD Cert.Kernel2Ideal.τ).loc Cert.Kernel2Ideal.main_v28_6)) (v7 : (c : Dev Cert.Kernel2Ideal.nD) → Buf (Elt Ideal) ((c.tc : Thread Cert.Kernel2Ideal.nD Cert.Kernel2Ideal.τ).loc Cert.Kernel2Ideal.main_v28_7)) (v8 : (c : Dev Cert.Kernel2Ideal.nD) → Buf (Elt Ideal) ((c.tc : Thread Cert.Kernel2Ideal.nD Cert.Kernel2Ideal.τ).loc Cert.Kernel2Ideal.main_v28_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v28_0) = v0 c
          ∧ r.2.mem ((c.tc : Thread Cert.Kernel2Ideal.nD Cert.Kernel2Ideal.τ).loc Cert.Kernel2Ideal.main_v28_1) = v1 c
          ∧ r.2.mem ((c.tc : Thread Cert.Kernel2Ideal.nD Cert.Kernel2Ideal.τ).loc Cert.Kernel2Ideal.main_v28_2) = v2 c
          ∧ r.2.mem ((c.tc : Thread Cert.Kernel2Ideal.nD Cert.Kernel2Ideal.τ).loc Cert.Kernel2Ideal.main_v28_3) = v3 c
          ∧ r.2.mem ((c.tc : Thread Cert.Kernel2Ideal.nD Cert.Kernel2Ideal.τ).loc Cert.Kernel2Ideal.main_v28_4) = v4 c
          ∧ r.2.mem ((c.tc : Thread Cert.Kernel2Ideal.nD Cert.Kernel2Ideal.τ).loc Cert.Kernel2Ideal.main_v28_5) = v5 c
          ∧ r.2.mem ((c.tc : Thread Cert.Kernel2Ideal.nD Cert.Kernel2Ideal.τ).loc Cert.Kernel2Ideal.main_v28_6) = v6 c
          ∧ r.2.mem ((c.tc : Thread Cert.Kernel2Ideal.nD Cert.Kernel2Ideal.τ).loc Cert.Kernel2Ideal.main_v28_7) = v7 c
          ∧ r.2.mem ((c.tc : Thread Cert.Kernel2Ideal.nD Cert.Kernel2Ideal.τ).loc Cert.Kernel2Ideal.main_v28_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v112) = v0 c
          ∧ r.2.mem ((c.tc : Thread Cert.Reference2Ideal.nD Cert.Reference2Ideal.τ).loc Cert.Reference2Ideal.main_v116) = v1 c
          ∧ r.2.mem ((c.tc : Thread Cert.Reference2Ideal.nD Cert.Reference2Ideal.τ).loc Cert.Reference2Ideal.main_v115) = v2 c
          ∧ r.2.mem ((c.tc : Thread Cert.Reference2Ideal.nD Cert.Reference2Ideal.τ).loc Cert.Reference2Ideal.main_v117) = v3 c
          ∧ r.2.mem ((c.tc : Thread Cert.Reference2Ideal.nD Cert.Reference2Ideal.τ).loc Cert.Reference2Ideal.main_v118) = v4 c
          ∧ r.2.mem ((c.tc : Thread Cert.Reference2Ideal.nD Cert.Reference2Ideal.τ).loc Cert.Reference2Ideal.main_v119) = v5 c
          ∧ r.2.mem ((c.tc : Thread Cert.Reference2Ideal.nD Cert.Reference2Ideal.τ).loc Cert.Reference2Ideal.main_v120) = v6 c
          ∧ r.2.mem ((c.tc : Thread Cert.Reference2Ideal.nD Cert.Reference2Ideal.τ).loc Cert.Reference2Ideal.main_v121) = v7 c
          ∧ r.2.mem ((c.tc : Thread Cert.Reference2Ideal.nD Cert.Reference2Ideal.τ).loc Cert.Reference2Ideal.main_v122) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S4x4096x512 : Shape := ⟨3, ![4, 4096, 512]⟩
abbrev S4x16x512x256 : Shape := ⟨4, ![4, 16, 512, 256]⟩
abbrev S4x8x4096 : Shape := ⟨3, ![4, 8, 4096]⟩
abbrev S_ : Shape := ⟨0, ![]⟩

class Facts : Prop where
  bitsLt_bf16_f32 : FTy.bits .bf16 < FTy.bits .f32
  bcast_S_S4x4096x512 : S_.BroadcastsInDim S4x4096x512 (![] : Fin 0 → Fin S4x4096x512.rank)
  bcast_S_S4x8x4096 : S_.BroadcastsInDim S4x8x4096 (![] : Fin 0 → Fin S4x8x4096.rank)

variable [Facts]

def fn {F : FTy → Type} [FloatOps F] (main_arg0 : FVec F S4x4096x512 .bf16) (main_arg1 : FVec F S4x4096x512 .bf16) (main_arg2 : FVec F S4x16x512x256 .bf16) (main_arg3 : FVec F S4x8x4096 .f32) (main_arg4 : FVec F S4x4096x512 .f32) : IVec S4x4096x512 1 × IVec S4x4096x512 1 × IVec S4x8x4096 1 :=
  let main_v0 : FVec F S4x4096x512 .f32 := (extf .f32 · bitsLt_bf16_f32) main_arg0
  let main_v1 : FVec F S4x4096x512 .f32 := (extf .f32 · bitsLt_bf16_f32) main_arg1
  let main_v2 : FVec F S4x4096x512 .f32 := Host.absf main_v0
  let main_cst : FVec F S_ .f32 := constant S_ .f32 0x7F800000#32
  let main_v3 : FVec F S4x4096x512 .f32 := broadcastInDim S4x4096x512 ![] bcast_S_S4x4096x512 main_cst
  let main_v4 : IVec S4x4096x512 1 := cmpf .olt main_v2 main_v3
  let main_v5 : FVec F S4x4096x512 .f32 := Host.absf main_v1
  let main_cst_0 : FVec F S_ .f32 := constant S_ .f32 0x7F800000#32
  let main_v6 : FVec F S4x4096x512 .f32 := broadcastInDim S4x4096x512 ![] bcast_S_S4x4096x512 main_cst_0
  let main_v7 : IVec S4x4096x512 1 := cmpf .olt main_v5 main_v6
  let main_v8 : FVec F S4x8x4096 .f32 := Host.absf main_arg3
  let main_cst_1 : FVec F S_ .f32 := constant S_ .f32 0x7F800000#32
  let main_v9 : FVec F S4x8x4096 .f32 := broadcastInDim S4x8x4096 ![] bcast_S_S4x8x4096 main_cst_1
  let main_v10 : IVec S4x8x4096 1 := cmpf .olt main_v8 main_v9
  (main_v4, main_v7, main_v10)
-- ==== Kernel.lean ====
abbrev S4x4096x512 : Shape := ⟨3, ![4, 4096, 512]⟩
abbrev S4x16x512x256 : Shape := ⟨4, ![4, 16, 512, 256]⟩
abbrev S4x8x4096 : Shape := ⟨3, ![4, 8, 4096]⟩
abbrev S4x4x2x4096 : Shape := ⟨4, ![4, 4, 2, 4096]⟩
abbrev S4x4x4096x2 : Shape := ⟨4, ![4, 4, 4096, 2]⟩
abbrev S1x256x128 : Shape := ⟨3, ![1, 256, 128]⟩
abbrev S1x4096x128 : Shape := ⟨3, ![1, 4096, 128]⟩
abbrev S1x16x128x256 : Shape := ⟨4, ![1, 16, 128, 256]⟩
abbrev S1x1x4096x2 : Shape := ⟨4, ![1, 1, 4096, 2]⟩
abbrev S256x128 : Shape := ⟨2, ![256, 128]⟩
abbrev S1x256 : Shape := ⟨2, ![1, 256]⟩
abbrev S64x256 : Shape := ⟨2, ![64, 256]⟩
abbrev S256x256 : Shape := ⟨2, ![256, 256]⟩
abbrev S1x1x256x1 : Shape := ⟨4, ![1, 1, 256, 1]⟩
abbrev S256x1 : Shape := ⟨2, ![256, 1]⟩
abbrev S256 : Shape := ⟨1, ![256]⟩
abbrev S1x1x64x256 : Shape := ⟨4, ![1, 1, 64, 256]⟩
abbrev S128x256 : Shape := ⟨2, ![128, 256]⟩

abbrev nBuf : Space → Nat
  | .hbm => 8
  | .vmem => 12
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x16x512x256, .bf16⟩
  | .hbm, ⟨3, _⟩ => ⟨S4x8x4096, .f32⟩
  | .hbm, ⟨4, _⟩ => ⟨S4x4096x512, .f32⟩
  | .hbm, ⟨5, _⟩ => ⟨S4x4x2x4096, .f32⟩
  | .hbm, ⟨6, _⟩ => ⟨S4x4x4096x2, .f32⟩
  | .hbm, ⟨7, _⟩ => ⟨S4x4096x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x16x128x256, .bf16⟩
  | .local _ .vmem, ⟨5, _⟩ => ⟨S1x16x128x256, .bf16⟩
  | .local _ .vmem, ⟨6, _⟩ => ⟨S1x1x4096x2, .f32⟩
  | .local _ .vmem, ⟨7, _⟩ => ⟨S1x1x4096x2, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .bf16⟩
  | .local _ .vmem, ⟨11, _⟩ => ⟨S1x256x128, .bf16⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 16], ![false, false, false]⟩

@[reducible] def k0_t1_loop (i : grid0.Coords) : Scf.Loop 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_9 : BitVec 32 := 1#32
  ⟨c0_i32, v20, c1_i32_9⟩
def k0_mult1 (i : grid0.Coords) (k0_t1 : Fin (k0_t1_loop i).trips) : BitVec 32 :=
  let c0_i32 : BitVec 32 := 0#32
  let c1_i32_9 : BitVec 32 := 1#32
  let arg9 : BitVec 32 := Scf.iv c0_i32 c1_i32_9 k0_t1
  let c256_i32_41 : BitVec 32 := 256#32
  let v107 : BitVec 32 := Scalar.muli arg9 c256_i32_41
  v107
def k0_off1 (i : grid0.Coords) (k0_t1 : Fin (k0_t1_loop i).trips) : Fin 3 → Nat :=
  let c0_42 : Index := 0#32
  let c0_i32 : BitVec 32 := 0#32
  let c1_i32_9 : BitVec 32 := 1#32
  let arg9 : BitVec 32 := Scf.iv c0_i32 c1_i32_9 k0_t1
  let c256_i32_41 : BitVec 32 := 256#32
  let v107 : BitVec 32 := Scalar.muli arg9 c256_i32_41
  let v108 : BitVec 32 := v107
  let v109 : Index := Scalar.indexCast v108
  let c0_43 : Index := 0#32
  ![0, v109.toNat, 0]
def k0_mult2 (i : grid0.Coords) (k0_t1 : Fin (k0_t1_loop i).trips) : BitVec 32 :=
  let c0_i32 : BitVec 32 := 0#32
  let c1_i32_9 : BitVec 32 := 1#32
  let arg9 : BitVec 32 := Scf.iv c0_i32 c1_i32_9 k0_t1
  let c256_i32_45 : BitVec 32 := 256#32
  let v113 : BitVec 32 := Scalar.muli arg9 c256_i32_45
  v113
def k0_off2 (i : grid0.Coords) (k0_t1 : Fin (k0_t1_loop i).trips) : Fin 4 → Nat :=
  let c0_46 : Index := 0#32
  let c0_47 : Index := 0#32
  let c0_i32 : BitVec 32 := 0#32
  let c1_i32_9 : BitVec 32 := 1#32
  let arg9 : BitVec 32 := Scf.iv c0_i32 c1_i32_9 k0_t1
  let c256_i32_45 : BitVec 32 := 256#32
  let v113 : BitVec 32 := Scalar.muli arg9 c256_i32_45
  let v114 : BitVec 32 := v113
  let v115 : Index := Scalar.indexCast v114
  let c0_48 : Index := 0#32
  ![0, 0, v115.toNat, 0]
def k0_off3 (i : grid0.Coords) (k0_t1 : Fin (k0_t1_loop i).trips) : Fin 4 → Nat :=
  let c0_51 : Index := 0#32
  let c0_i32 : BitVec 32 := 0#32
  let c1_i32_9 : BitVec 32 := 1#32
  let arg9 : BitVec 32 := Scf.iv c0_i32 c1_i32_9 k0_t1
  let v132 : Index := Scalar.indexCast arg9
  let c0_52 : Index := 0#32
  let c0_53 : Index := 0#32
  ![0, v132.toNat, 0, 0]
def k0_mult3 (i : grid0.Coords) (k0_t1 : Fin (k0_t1_loop i).trips) : BitVec 32 :=
  let c0_i32 : BitVec 32 := 0#32
  let c1_i32_9 : BitVec 32 := 1#32
  let arg9 : BitVec 32 := Scf.iv c0_i32 c1_i32_9 k0_t1
  let c256_i32_56 : BitVec 32 := 256#32
  let v141 : BitVec 32 := Scalar.muli arg9 c256_i32_56
  v141
def k0_off4 (i : grid0.Coords) (k0_t1 : Fin (k0_t1_loop i).trips) : Fin 4 → Nat :=
  let c0_57 : Index := 0#32
  let c0_58 : Index := 0#32
  let c0_i32 : BitVec 32 := 0#32
  let c1_i32_9 : BitVec 32 := 1#32
  let arg9 : BitVec 32 := Scf.iv c0_i32 c1_i32_9 k0_t1
  let c256_i32_56 : BitVec 32 := 256#32
  let v141 : BitVec 32 := Scalar.muli arg9 c256_i32_56
  let v142 : BitVec 32 := v141
  let v143 : Index := Scalar.indexCast v142
  let c1_59 : Index := 1#32
  ![0, 0, v143.toNat, 1]
def k0_off5 (i : grid0.Coords) (k0_t1 : Fin (k0_t1_loop i).trips) : Fin 4 → Nat :=
  let c0_62 : Index := 0#32
  let c0_i32 : BitVec 32 := 0#32
  let c1_i32_9 : BitVec 32 := 1#32
  let arg9 : BitVec 32 := Scf.iv c0_i32 c1_i32_9 k0_t1
  let v160 : Index := Scalar.indexCast arg9
  let c64_63 : Index := 64#32
  let c0_64 : Index := 0#32
  ![0, v160.toNat, 64, 0]
@[reducible] def k0_t2_loop (i : grid0.Coords) : Scf.Loop 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let v17 : BitVec 32 := Scalar.addi c0_i32 v16
  let c1_i32_10 : BitVec 32 := 1#32
  ⟨v20, v17, c1_i32_10⟩
def k0_mult4 (i : grid0.Coords) (k0_t2 : Fin (k0_t2_loop i).trips) : BitVec 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg9 : BitVec 32 := Scf.iv v20 c1_i32_10 k0_t2
  let c256_i32_41 : BitVec 32 := 256#32
  let v107 : BitVec 32 := Scalar.muli arg9 c256_i32_41
  v107
def k0_off6 (i : grid0.Coords) (k0_t2 : Fin (k0_t2_loop i).trips) : Fin 3 → Nat :=
  let c0_42 : Index := 0#32
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg9 : BitVec 32 := Scf.iv v20 c1_i32_10 k0_t2
  let c256_i32_41 : BitVec 32 := 256#32
  let v107 : BitVec 32 := Scalar.muli arg9 c256_i32_41
  let v108 : BitVec 32 := v107
  let v109 : Index := Scalar.indexCast v108
  let c0_43 : Index := 0#32
  ![0, v109.toNat, 0]
def k0_mult5 (i : grid0.Coords) (k0_t2 : Fin (k0_t2_loop i).trips) : BitVec 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg9 : BitVec 32 := Scf.iv v20 c1_i32_10 k0_t2
  let c256_i32_45 : BitVec 32 := 256#32
  let v113 : BitVec 32 := Scalar.muli arg9 c256_i32_45
  v113
def k0_off7 (i : grid0.Coords) (k0_t2 : Fin (k0_t2_loop i).trips) : Fin 4 → Nat :=
  let c0_46 : Index := 0#32
  let c0_47 : Index := 0#32
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg9 : BitVec 32 := Scf.iv v20 c1_i32_10 k0_t2
  let c256_i32_45 : BitVec 32 := 256#32
  let v113 : BitVec 32 := Scalar.muli arg9 c256_i32_45
  let v114 : BitVec 32 := v113
  let v115 : Index := Scalar.indexCast v114
  let c0_48 : Index := 0#32
  ![0, 0, v115.toNat, 0]
def k0_off8 (i : grid0.Coords) (k0_t2 : Fin (k0_t2_loop i).trips) : Fin 4 → Nat :=
  let c0_51 : Index := 0#32
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg9 : BitVec 32 := Scf.iv v20 c1_i32_10 k0_t2
  let v132 : Index := Scalar.indexCast arg9
  let c0_52 : Index := 0#32
  let c0_53 : Index := 0#32
  ![0, v132.toNat, 0, 0]
def k0_mult6 (i : grid0.Coords) (k0_t2 : Fin (k0_t2_loop i).trips) : BitVec 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg9 : BitVec 32 := Scf.iv v20 c1_i32_10 k0_t2
  let c256_i32_56 : BitVec 32 := 256#32
  let v141 : BitVec 32 := Scalar.muli arg9 c256_i32_56
  v141
def k0_off9 (i : grid0.Coords) (k0_t2 : Fin (k0_t2_loop i).trips) : Fin 4 → Nat :=
  let c0_57 : Index := 0#32
  let c0_58 : Index := 0#32
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg9 : BitVec 32 := Scf.iv v20 c1_i32_10 k0_t2
  let c256_i32_56 : BitVec 32 := 256#32
  let v141 : BitVec 32 := Scalar.muli arg9 c256_i32_56
  let v142 : BitVec 32 := v141
  let v143 : Index := Scalar.indexCast v142
  let c1_59 : Index := 1#32
  ![0, 0, v143.toNat, 1]
def k0_off10 (i : grid0.Coords) (k0_t2 : Fin (k0_t2_loop i).trips) : Fin 4 → Nat :=
  let c0_62 : Index := 0#32
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg9 : BitVec 32 := Scf.iv v20 c1_i32_10 k0_t2
  let v160 : Index := Scalar.indexCast arg9
  let c64_63 : Index := 64#32
  let c0_64 : Index := 0#32
  ![0, v160.toNat, 64, 0]
def k0_mult7 (i : grid0.Coords) : BitVec 32 :=
  let arg2 : BitVec 32 := BitVec.ofNat 32 (i 2).val
  let c256_i32 : BitVec 32 := 256#32
  let v23 : BitVec 32 := Scalar.muli arg2 c256_i32
  v23
def k0_off11 (i : grid0.Coords) : Fin 3 → Nat :=
  let c0_11 : Index := 0#32
  let arg2 : BitVec 32 := BitVec.ofNat 32 (i 2).val
  let c256_i32 : BitVec 32 := 256#32
  let v23 : BitVec 32 := Scalar.muli arg2 c256_i32
  let v24 : BitVec 32 := v23
  let v25 : Index := Scalar.indexCast v24
  let c0_12 : Index := 0#32
  ![0, v25.toNat, 0]
def k0_mult8 (i : grid0.Coords) : BitVec 32 :=
  let arg2 : BitVec 32 := BitVec.ofNat 32 (i 2).val
  let c256_i32_14 : BitVec 32 := 256#32
  let v29 : BitVec 32 := Scalar.muli arg2 c256_i32_14
  v29
def k0_off12 (i : grid0.Coords) : Fin 4 → Nat :=
  let c0_15 : Index := 0#32
  let c0_16 : Index := 0#32
  let arg2 : BitVec 32 := BitVec.ofNat 32 (i 2).val
  let c256_i32_14 : BitVec 32 := 256#32
  let v29 : BitVec 32 := Scalar.muli arg2 c256_i32_14
  let v30 : BitVec 32 := v29
  let v31 : Index := Scalar.indexCast v30
  let c0_17 : Index := 0#32
  ![0, 0, v31.toNat, 0]
def k0_off13 (i : grid0.Coords) : Fin 4 → Nat :=
  let c0_21 : Index := 0#32
  let arg2 : BitVec 32 := BitVec.ofNat 32 (i 2).val
  let v53 : Index := Scalar.indexCast arg2
  let c0_22 : Index := 0#32
  let c0_23 : Index := 0#32
  ![0, v53.toNat, 0, 0]
def k0_mult9 (i : grid0.Coords) : BitVec 32 :=
  let arg2 : BitVec 32 := BitVec.ofNat 32 (i 2).val
  let c256_i32_26 : BitVec 32 := 256#32
  let v62 : BitVec 32 := Scalar.muli arg2 c256_i32_26
  v62
def k0_off14 (i : grid0.Coords) : Fin 4 → Nat :=
  let c0_27 : Index := 0#32
  let c0_28 : Index := 0#32
  let arg2 : BitVec 32 := BitVec.ofNat 32 (i 2).val
  let c256_i32_26 : BitVec 32 := 256#32
  let v62 : BitVec 32 := Scalar.muli arg2 c256_i32_26
  let v63 : BitVec 32 := v62
  let v64 : Index := Scalar.indexCast v63
  let c1 : Index := 1#32
  ![0, 0, v64.toNat, 1]
def k0_off15 (i : grid0.Coords) : Fin 4 → Nat :=
  let c0_32 : Index := 0#32
  let arg2 : BitVec 32 := BitVec.ofNat 32 (i 2).val
  let v86 : Index := Scalar.indexCast arg2
  let c64 : Index := 64#32
  let c0_33 : Index := 0#32
  ![0, v86.toNat, 64, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x4096x512 : Shape := ⟨3, ![4, 4096, 512]⟩
abbrev S4x16x512x256 : Shape := ⟨4, ![4, 16, 512, 256]⟩
abbrev S4x8x4096 : Shape := ⟨3, ![4, 8, 4096]⟩
abbrev S_ : Shape := ⟨0, ![]⟩
abbrev S4x4096x8x64 : Shape := ⟨4, ![4, 4096, 8, 64]⟩
abbrev S4x16x256x512 : Shape := ⟨4, ![4, 16, 256, 512]⟩
abbrev S4x4096x8 : Shape := ⟨3, ![4, 4096, 8]⟩
abbrev S4x8x4096x4096 : Shape := ⟨4, ![4, 8, 4096, 4096]⟩
abbrev S4x8x4096x1 : Shape := ⟨4, ![4, 8, 4096, 1]⟩
abbrev S4x8x1x4096 : Shape := ⟨4, ![4, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x8x64x4096 : Shape := ⟨4, ![4, 8, 64, 4096]⟩

abbrev nBuf : Space → Nat
  | .hbm => 63
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x16x512x256, .bf16⟩
  | .hbm, ⟨3, _⟩ => ⟨S4x8x4096, .f32⟩
  | .hbm, ⟨4, _⟩ => ⟨S4x4096x512, .f32⟩
  | .hbm, ⟨5, _⟩ => ⟨S_, .f32⟩
  | .hbm, ⟨6, _⟩ => ⟨S_, .f32⟩
  | .hbm, ⟨7, _⟩ => ⟨S4x4096x512, .f32⟩
  | .hbm, ⟨8, _⟩ => ⟨S_, .f32⟩
  | .hbm, ⟨9, _⟩ => ⟨S_, .f32⟩
  | .hbm, ⟨10, _⟩ => ⟨S4x4096x512, .f32⟩
  | .hbm, ⟨11, _⟩ => ⟨S4x4096x512, .f32⟩
  | .hbm, ⟨12, _⟩ => ⟨S4x4096x8x64, .f32⟩
  | .hbm, ⟨13, _⟩ => ⟨S4x4096x512, .f32⟩
  | .hbm, ⟨14, _⟩ => ⟨S4x4096x8x64, .f32⟩
  | .hbm, ⟨15, _⟩ => ⟨S4x16x512x256, .f32⟩
  | .hbm, ⟨16, _⟩ => ⟨S4x16x256x512, .f32⟩
  | .hbm, ⟨17, _⟩ => ⟨S4x4096x8x64, .f32⟩
  | .hbm, ⟨18, _⟩ => ⟨S4x8x4096, .f32⟩
  | .hbm, ⟨19, _⟩ => ⟨S4x8x4096, .f32⟩
  | .hbm, ⟨20, _⟩ => ⟨S4x4096x8, .f32⟩
  | .hbm, ⟨21, _⟩ => ⟨S4x8x4096x4096, .f32⟩
  | .hbm, ⟨22, _⟩ => ⟨S_, .f32⟩
  | .hbm, ⟨23, _⟩ => ⟨S4x8x4096x4096, .f32⟩
  | .hbm, ⟨24, _⟩ => ⟨S4x8x4096x4096, .f32⟩
  | .hbm, ⟨25, _⟩ => ⟨S4x8x4096, .f32⟩
  | .hbm, ⟨26, _⟩ => ⟨S4x8x4096x1, .f32⟩
  | .hbm, ⟨27, _⟩ => ⟨S4x8x4096, .f32⟩
  | .hbm, ⟨28, _⟩ => ⟨S4x8x1x4096, .f32⟩
  | .hbm, ⟨29, _⟩ => ⟨S4x8x4096x4096, .f32⟩
  | .hbm, ⟨30, _⟩ => ⟨S4x8x4096x4096, .f32⟩
  | .hbm, ⟨31, _⟩ => ⟨S4x8x4096x4096, .f32⟩
  | .hbm, ⟨32, _⟩ => ⟨S4096, .i32⟩
  | .hbm, ⟨33, _⟩ => ⟨S1x4096, .i32⟩
  | .hbm, ⟨34, _⟩ => ⟨S4096x1, .i32⟩
  | .hbm, ⟨35, _⟩ => ⟨S4096x4096, .i32⟩
  | .hbm, ⟨36, _⟩ => ⟨S4096x4096, .i32⟩
  | .hbm, ⟨37, _⟩ => ⟨S4096x4096, .i1⟩
  | .hbm, ⟨38, _⟩ => ⟨S4x8x4096x4096, .f32⟩
  | .hbm, ⟨39, _⟩ => ⟨S_, .f32⟩
  | .hbm, ⟨40, _⟩ => ⟨S_, .f32⟩
  | .hbm, ⟨41, _⟩ => ⟨S4x8x4096x4096, .i1⟩
  | .hbm, ⟨42, _⟩ => ⟨S4x8x4096x4096, .f32⟩
  | .hbm, ⟨43, _⟩ => ⟨S4x8x4096x4096, .f32⟩
  | .hbm, ⟨44, _⟩ => ⟨S_, .f32⟩
  | .hbm, ⟨45, _⟩ => ⟨S4x8x4096, .f32⟩
  | .hbm, ⟨46, _⟩ => ⟨S_, .f32⟩
  | .hbm, ⟨47, _⟩ => ⟨S4x8x4096, .f32⟩
  | .hbm, ⟨48, _⟩ => ⟨S4x8x4096, .f32⟩
  | .hbm, ⟨49, _⟩ => ⟨S4x8x4096x1, .f32⟩
  | .hbm, ⟨50, _⟩ => ⟨S4x8x4096x4096, .f32⟩
  | .hbm, ⟨51, _⟩ => ⟨S4x8x4096x4096, .f32⟩
  | .hbm, ⟨52, _⟩ => ⟨S4x8x4096x4096, .f32⟩
  | .hbm, ⟨53, _⟩ => ⟨S_, .f32⟩
  | .hbm, ⟨54, _⟩ => ⟨S4x8x4096, .f32⟩
  | .hbm, ⟨55, _⟩ => ⟨S4x8x4096x1, .f32⟩
  | .hbm, ⟨56, _⟩ => ⟨S4x8x4096x4096, .f32⟩
  | .hbm, ⟨57, _⟩ => ⟨S4x8x4096x4096, .f32⟩
  | .hbm, ⟨58, _⟩ => ⟨S4x8x64x4096, .f32⟩
  | .hbm, ⟨59, _⟩ => ⟨S4x4096x8x64, .f32⟩
  | .hbm, ⟨60, _⟩ => ⟨S4x4096x512, .f32⟩
  | .hbm, ⟨61, _⟩ => ⟨S4x4096x512, .f32⟩
  | .hbm, ⟨62, _⟩ => ⟨S4x4096x512, .bf16⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x40x1x3072 : Shape := ⟨4, ![4, 40, 1, 3072]⟩
abbrev S4x1024 : Shape := ⟨2, ![4, 1024]⟩
abbrev S4x1024x4104 : Shape := ⟨3, ![4, 1024, 4104]⟩
abbrev S4x8 : Shape := ⟨2, ![4, 8]⟩
abbrev S4x64 : Shape := ⟨2, ![4, 64]⟩
abbrev S4x3x512 : Shape := ⟨3, ![4, 3, 512]⟩
abbrev S4x512 : Shape := ⟨2, ![4, 512]⟩
abbrev S4x1024x2048 : Shape := ⟨3, ![4, 1024, 2048]⟩
abbrev S4x1024x4096 : Shape := ⟨3, ![4, 1024, 4096]⟩
abbrev S4x1024x8 : Shape := ⟨3, ![4, 1024, 8]⟩
abbrev S_ : Shape := ⟨0, ![]⟩
abbrev S4x1024x128 : Shape := ⟨3, ![4, 1024, 128]⟩
abbrev S4x128 : Shape := ⟨2, ![4, 128]⟩
abbrev S4x1x128 : Shape := ⟨3, ![4, 1, 128]⟩
abbrev S1x4x1x64 : Shape := ⟨4, ![1, 4, 1, 64]⟩
abbrev S1x4x8x64 : Shape := ⟨4, ![1, 4, 8, 64]⟩
abbrev S4x1x512 : Shape := ⟨3, ![4, 1, 512]⟩
abbrev S4x1x1024 : Shape := ⟨3, ![4, 1, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x4096x512 : Shape := ⟨3, ![4, 4096, 512]⟩
abbrev S4x16x512x256 : Shape := ⟨4, ![4, 16, 512, 256]⟩
abbrev S4x512x4096 : Shape := ⟨3, ![4, 512, 4096]⟩
abbrev S4x8x4096 : Shape := ⟨3, ![4, 8, 4096]⟩
abbrev S4x2x512 : Shape := ⟨3, ![4, 2, 512]⟩
abbrev S1x512x1024 : Shape := ⟨3, ![1, 512, 1024]⟩
abbrev S1x1x1x3072 : Shape := ⟨4, ![1, 1, 1, 3072]⟩
abbrev S1x1x1024 : Shape := ⟨3, ![1, 1, 1024]⟩
abbrev S1x1024x4096 : Shape := ⟨3, ![1, 1024, 4096]⟩
abbrev S1x1024x128 : Shape := ⟨3, ![1, 1024, 128]⟩
abbrev S1x1x128 : Shape := ⟨3, ![1, 1, 128]⟩
abbrev S1x1x512 : Shape := ⟨3, ![1, 1, 512]⟩
abbrev S1x3x512 : Shape := ⟨3, ![1, 3, 512]⟩
abbrev S1x512x512 : Shape := ⟨3, ![1, 512, 512]⟩
abbrev S1x2x512x256 : Shape := ⟨4, ![1, 2, 512, 256]⟩
abbrev S1x8x512 : Shape := ⟨3, ![1, 8, 512]⟩
abbrev S1x2x512 : Shape := ⟨3, ![1, 2, 512]⟩
abbrev S8x512 : Shape := ⟨2, ![8, 512]⟩
abbrev S1x3072 : Shape := ⟨2, ![1, 3072]⟩
abbrev S1x1024 : Shape := ⟨2, ![1, 1024]⟩
abbrev S512x1024 : Shape := ⟨2, ![512, 1024]⟩
abbrev S1x128 : Shape := ⟨2, ![1, 128]⟩
abbrev S1x512 : Shape := ⟨2, ![1, 512]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S512x256 : Shape := ⟨2, ![512, 256]⟩
abbrev S1024x128 : Shape := ⟨2, ![1024, 128]⟩
abbrev S512x128 : Shape := ⟨2, ![512, 128]⟩
abbrev S1x1x512x256 : Shape := ⟨4, ![1, 1, 512, 256]⟩
abbrev S128x512 : Shape := ⟨2, ![128, 512]⟩
abbrev S3x512 : Shape := ⟨2, ![3, 512]⟩
abbrev S2x512 : Shape := ⟨2, ![2, 512]⟩

abbrev nBuf : Space → Nat
  | .hbm => 71
  | .vmem => 32
  | .smem => 0
  | _ => 0

abbrev bufTy : (tb : Table) → Fin (tcTables nBuf tb) → BufTy
  | .hbm, ⟨0, _⟩ => ⟨S4x4096x1024, .f32⟩
  | .hbm, ⟨1, _⟩ => ⟨S4x40x1x3072, .f32⟩
  | .hbm, ⟨2, _⟩ => ⟨S4x1024, .f32⟩
  | .hbm, ⟨3, _⟩ => ⟨S4x1024x4104, .f32⟩
  | .hbm, ⟨4, _⟩ => ⟨S4x8, .f32⟩
  | .hbm, ⟨5, _⟩ => ⟨S4x64, .f32⟩
  | .hbm, ⟨6, _⟩ => ⟨S4x64, .f32⟩
  | .hbm, ⟨7, _⟩ => ⟨S4x3x512, .f32⟩
  | .hbm, ⟨8, _⟩ => ⟨S4x512, .f32⟩
  | .hbm, ⟨9, _⟩ => ⟨S4x1024x2048, .f32⟩
  | .hbm, ⟨10, _⟩ => ⟨S4x1024x2048, .f32⟩
  | .hbm, ⟨11, _⟩ => ⟨S4x1024x4096, .f32⟩
  | .hbm, ⟨12, _⟩ => ⟨S4x1024x4096, .bf16⟩
  | .hbm, ⟨13, _⟩ => ⟨S4x1024x8, .f32⟩
  | .hbm, ⟨14, _⟩ => ⟨S_, .i32⟩
  | .hbm, ⟨15, _⟩ => ⟨S_, .f32⟩
  | .hbm, ⟨16, _⟩ => ⟨S4x1024x128, .f32⟩
  | .hbm, ⟨17, _⟩ => ⟨S4x1024x128, .bf16⟩
  | .hbm, ⟨18, _⟩ => ⟨S_, .i32⟩
  | .hbm, ⟨19, _⟩ => ⟨S_, .f32⟩
  | .hbm, ⟨20, _⟩ => ⟨S4x128, .f32⟩
  | .hbm, ⟨21, _⟩ => ⟨S4x1x128, .f32⟩
  | .hbm, ⟨22, _⟩ => ⟨S1x4x1x64, .f32⟩
  | .hbm, ⟨23, _⟩ => ⟨S1x4x8x64, .f32⟩
  | .hbm, ⟨24, _⟩ => ⟨S4x512, .f32⟩
  | .hbm, ⟨25, _⟩ => ⟨S4x1x512, .f32⟩
  | .hbm, ⟨26, _⟩ => ⟨S1x4x1x64, .f32⟩
  | .hbm, ⟨27, _⟩ => ⟨S1x4x8x64, .f32⟩
  | .hbm, ⟨28, _⟩ => ⟨S4x512, .f32⟩
  | .hbm, ⟨29, _⟩ => ⟨S4x1x512, .f32⟩
  | .hbm, ⟨30, _⟩ => ⟨S4x1x1024, .f32⟩
  | .hbm, ⟨31, _⟩ => ⟨S4x1x512, .f32⟩
  | .hbm, ⟨32, _⟩ => ⟨S256, .i32⟩
  | .hbm, ⟨33, _⟩ => ⟨S_, .i32⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S256, .i32⟩
  | .hbm, ⟨38, _⟩ => ⟨S_, .i32⟩
  | .hbm, ⟨39, _⟩ => ⟨S256, .i32⟩
  | .hbm, ⟨40, _⟩ => ⟨S256, .i1⟩
  | .hbm, ⟨41, _⟩ => ⟨S256, .i32⟩
  | .hbm, ⟨42, _⟩ => ⟨S256, .i32⟩
  | .hbm, ⟨43, _⟩ => ⟨S_, .i32⟩
  | .hbm, ⟨44, _⟩ => ⟨S256, .i32⟩
  | .hbm, ⟨45, _⟩ => ⟨S256, .i1⟩
  | .hbm, ⟨46, _⟩ => ⟨S256, .i1⟩
  | .hbm, ⟨47, _⟩ => ⟨S_, .i32⟩
  | .hbm, ⟨48, _⟩ => ⟨S256, .i32⟩
  | .hbm, ⟨49, _⟩ => ⟨S256, .i32⟩
  | .hbm, ⟨50, _⟩ => ⟨S256, .i32⟩
  | .hbm, ⟨51, _⟩ => ⟨S256x1, .i32⟩
  | .hbm, ⟨52, _⟩ => ⟨S1x256, .i32⟩
  | .hbm, ⟨53, _⟩ => ⟨S256x256, .i32⟩
  | .hbm, ⟨54, _⟩ => ⟨S256x256, .i32⟩
  | .hbm, ⟨55, _⟩ => ⟨S256x256, .i1⟩
  | .hbm, ⟨56, _⟩ => ⟨S_, .f32⟩
  | .hbm, ⟨57, _⟩ => ⟨S_, .f32⟩
  | .hbm, ⟨58, _⟩ => ⟨S256x256, .f32⟩
  | .hbm, ⟨59, _⟩ => ⟨S256x256, .f32⟩
  | .hbm, ⟨60, _⟩ => ⟨S256x256, .f32⟩
  | .hbm, ⟨61, _⟩ => ⟨S256x256, .bf16⟩
  | .hbm, ⟨62, _⟩ => ⟨S4x4096x512, .bf16⟩
  | .hbm, ⟨63, _⟩ => ⟨S4x4096x512, .bf16⟩
  | .hbm, ⟨64, _⟩ => ⟨S4x16x512x256, .bf16⟩
  | .hbm, ⟨65, _⟩ => ⟨S4x512x4096, .f32⟩
  | .hbm, ⟨66, _⟩ => ⟨S4x512x4096, .f32⟩
  | .hbm, ⟨67, _⟩ => ⟨S4x8x4096, .f32⟩
  | .hbm, ⟨68, _⟩ => ⟨S4x4096x512, .f32⟩
  | .hbm, ⟨69, _⟩ => ⟨S4x4096x512, .bf16⟩
  | .hbm, ⟨70, _⟩ => ⟨S4x2x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1x3072, .f32⟩
  | .local _ .vmem, ⟨3, _⟩ => ⟨S1x1x1x3072, .f32⟩
  | .local _ .vmem, ⟨4, _⟩ => ⟨S1x1x1024, .f32⟩
  | .local _ .vmem, ⟨5, _⟩ => ⟨S1x1024x4096, .bf16⟩
  | .local _ .vmem, ⟨6, _⟩ => ⟨S1x1024x128, .bf16⟩
  | .local _ .vmem, ⟨7, _⟩ => ⟨S1x1x128, .f32⟩
  | .local _ .vmem, ⟨8, _⟩ => ⟨S1x1x512, .f32⟩
  | .local _ .vmem, ⟨9, _⟩ => ⟨S1x1x512, .f32⟩
  | .local _ .vmem, ⟨10, _⟩ => ⟨S1x3x512, .f32⟩
  | .local _ .vmem, ⟨11, _⟩ => ⟨S1x1x512, .f32⟩
  | .local _ .vmem, ⟨12, _⟩ => ⟨S256x256, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x2x512x256, .bf16⟩
  | .local _ .vmem, ⟨18, _⟩ => ⟨S1x2x512x256, .bf16⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x8x512, .f32⟩
  | .local _ .vmem, ⟨24, _⟩ => ⟨S1x8x512, .f32⟩
  | .local _ .vmem, ⟨25, _⟩ => ⟨S1x512x512, .f32⟩
  | .local _ .vmem, ⟨26, _⟩ => ⟨S1x512x512, .f32⟩
  | .local _ .vmem, ⟨27, _⟩ => ⟨S1x512x512, .bf16⟩
  | .local _ .vmem, ⟨28, _⟩ => ⟨S1x512x512, .bf16⟩
  | .local _ .vmem, ⟨29, _⟩ => ⟨S1x2x512, .f32⟩
  | .local _ .vmem, ⟨30, _⟩ => ⟨S1x2x512, .f32⟩
  | .local _ .vmem, ⟨31, _⟩ => ⟨S8x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_c : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_0 : Ref sig .tc := ⟨.hbm, 47, rfl⟩
abbrev main_call2_v12 : Ref sig .tc := ⟨.hbm, 48, rfl⟩
abbrev main_call2_v13 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst : Ref sig .tc := ⟨.hbm, 56, rfl⟩
abbrev main_cst_2 : Ref sig .tc := ⟨.hbm, 57, rfl⟩
abbrev main_call3_v0 : Ref sig .tc := ⟨.hbm, 58, rfl⟩
abbrev main_call3_v1 : Ref sig .tc := ⟨.hbm, 59, rfl⟩
abbrev main_v26 : Ref sig .tc := ⟨.hbm, 60, rfl⟩
abbrev main_v27 : Ref sig .tc := ⟨.hbm, 61, rfl⟩
abbrev main_v28_0 : Ref sig .tc := ⟨.hbm, 62, rfl⟩
abbrev main_v28_1 : Ref sig .tc := ⟨.hbm, 63, rfl⟩
abbrev main_v28_2 : Ref sig .tc := ⟨.hbm, 64, rfl⟩
abbrev main_v28_3 : Ref sig .tc := ⟨.hbm, 65, rfl⟩
abbrev main_v28_4 : Ref sig .tc := ⟨.hbm, 66, rfl⟩
abbrev main_v28_5 : Ref sig .tc := ⟨.hbm, 67, rfl⟩
abbrev main_v28_6 : Ref sig .tc := ⟨.hbm, 68, rfl⟩
abbrev main_v28_7 : Ref sig .tc := ⟨.hbm, 69, rfl⟩
abbrev main_v28_8 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v205 : BitVec 1 := Scalar.cmpi .eq arg1 c7_i32
  let v206 : BitVec 32 := Scalar.extui v205
  let c0_i32_110 : BitVec 32 := 0#32
  let v207 : BitVec 1 := Scalar.cmpi .ne v206 c0_i32_110
  v207

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x2x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== Reference2Ideal.lean ====
abbrev S4x4096x1024 : Shape := ⟨3, ![4, 4096, 1024]⟩
abbrev S4x40x1x3072 : Shape := ⟨4, ![4, 40, 1, 3072]⟩
abbrev S4x1024 : Shape := ⟨2, ![4, 1024]⟩
abbrev S4x1024x4104 : Shape := ⟨3, ![4, 1024, 4104]⟩
abbrev S4x8 : Shape := ⟨2, ![4, 8]⟩
abbrev S4x64 : Shape := ⟨2, ![4, 64]⟩
abbrev S4x3x512 : Shape := ⟨3, ![4, 3, 512]⟩
abbrev S4x512 : Shape := ⟨2, ![4, 512]⟩
abbrev S1x4x1x3072 : Shape := ⟨4, ![1, 4, 1, 3072]⟩
abbrev S4x3072 : Shape := ⟨2, ![4, 3072]⟩
abbrev S4x1x1024 : Shape := ⟨3, ![4, 1, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x4104 : Shape := ⟨3, ![1, 1024, 4104]⟩
abbrev S1024x4104 : Shape := ⟨2, ![1024, 4104]⟩
abbrev S4x4096x4104 : Shape := ⟨3, ![4, 4096, 4104]⟩
abbrev S4x4096x512 : Shape := ⟨3, ![4, 4096, 512]⟩
abbrev S4x4096x8 : Shape := ⟨3, ![4, 4096, 8]⟩
abbrev S4x4096x8x64 : Shape := ⟨4, ![4, 4096, 8, 64]⟩
abbrev S1x64 : Shape := ⟨2, ![1, 64]⟩
abbrev S64 : Shape := ⟨1, ![64]⟩
abbrev S4x4096x8x1 : Shape := ⟨4, ![4, 4096, 8, 1]⟩
abbrev S1x1x1x64 : Shape := ⟨4, ![1, 1, 1, 64]⟩
abbrev S1x8 : Shape := ⟨2, ![1, 8]⟩
abbrev S8 : Shape := ⟨1, ![8]⟩
abbrev S1x1x8 : Shape := ⟨3, ![1, 1, 8]⟩
abbrev S4x2x512 : Shape := ⟨3, ![4, 2, 512]⟩
abbrev S4x4098x512 : Shape := ⟨3, ![4, 4098, 512]⟩
abbrev S1x512 : Shape := ⟨2, ![1, 512]⟩
abbrev S512 : Shape := ⟨1, ![512]⟩
abbrev S1x1x512 : Shape := ⟨3, ![1, 1, 512]⟩
abbrev S4x16x256x512 : Shape := ⟨4, ![4, 16, 256, 512]⟩
abbrev S4x16x512x256 : Shape := ⟨4, ![4, 16, 512, 256]⟩
abbrev S4x512x4096 : Shape := ⟨3, ![4, 512, 4096]⟩
abbrev S4x8x4096 : Shape := ⟨3, ![4, 8, 4096]⟩

abbrev nBuf : Space → Nat
  | .hbm => 175
  | .vmem => 0
  | .smem => 0
  | _ => 0

abbrev hbmTy0_0 (i : Nat) : BufTy := match i % 128 with
  | 0 => ⟨S4x4096x1024, .f32⟩
  | 1 => ⟨S4x40x1x3072, .f32⟩
  | 2 => ⟨S4x1024, .f32⟩
  | 3 => ⟨S4x1024x4104, .f32⟩
  | 4 => ⟨S4x8, .f32⟩
  | 5 => ⟨S4x64, .f32⟩
  | 6 => ⟨S4x64, .f32⟩
  | 7 => ⟨S4x3x512, .f32⟩
  | 8 => ⟨S4x512, .f32⟩
  | 9 => ⟨S1x4x1x3072, .f32⟩
  | 10 => ⟨S4x3072, .f32⟩
  | 11 => ⟨S4x1024, .f32⟩
  | 12 => ⟨S4x1x1024, .f32⟩
  | 13 => ⟨S4x1024, .f32⟩
  | 14 => ⟨S4x1x1024, .f32⟩
  | 15 => ⟨S1x1024, .f32⟩
  | 16 => ⟨S1024, .f32⟩
  | 17 => ⟨S4x4096x1024, .f32⟩
  | 18 => ⟨S_, .f32⟩
  | 19 => ⟨S4x4096, .f32⟩
  | 20 => ⟨S4x4096x1, .f32⟩
  | 21 => ⟨S_, .f32⟩
  | 22 => ⟨S4x4096x1, .f32⟩
  | 23 => ⟨S4x4096x1, .f32⟩
  | 24 => ⟨S_, .f32⟩
  | 25 => ⟨S4x4096x1, .f32⟩
  | 26 => ⟨S4x4096x1, .f32⟩
  | 27 => ⟨S4x4096x1, .f32⟩
  | 28 => ⟨S4x4096x1024, .f32⟩
  | 29 => ⟨S4x4096x1024, .f32⟩
  | 30 => ⟨S1x1x1024, .f32⟩
  | 31 => ⟨S4x4096x1024, .f32⟩
  | 32 => ⟨S4x4096x1024, .f32⟩
  | 33 => ⟨S_, .f32⟩
  | 34 => ⟨S4x1x1024, .f32⟩
  | 35 => ⟨S4x1x1024, .f32⟩
  | 36 => ⟨S4x4096x1024, .f32⟩
  | 37 => ⟨S4x4096x1024, .f32⟩
  | 38 => ⟨S4x4096x1024, .f32⟩
  | 39 => ⟨S4x4096x1024, .f32⟩
  | 40 => ⟨S1x1024x4104, .f32⟩
  | 41 => ⟨S1024x4104, .f32⟩
  | 42 => ⟨S4x4096x4104, .f32⟩
  | 43 => ⟨S4x4096x512, .f32⟩
  | 44 => ⟨S4x4096x512, .f32⟩
  | 45 => ⟨S4x4096x512, .f32⟩
  | 46 => ⟨S4x4096x512, .f32⟩
  | 47 => ⟨S4x4096x8, .f32⟩
  | 48 => ⟨S4x4096x512, .f32⟩
  | 49 => ⟨S4x4096x512, .f32⟩
  | 50 => ⟨S4x4096x512, .f32⟩
  | 51 => ⟨S4x4096x512, .f32⟩
  | 52 => ⟨S4x4096x8x64, .f32⟩
  | 53 => ⟨S1x64, .f32⟩
  | 54 => ⟨S64, .f32⟩
  | 55 => ⟨S4x4096x8x64, .f32⟩
  | 56 => ⟨S_, .f32⟩
  | 57 => ⟨S4x4096x8, .f32⟩
  | 58 => ⟨S4x4096x8x1, .f32⟩
  | 59 => ⟨S_, .f32⟩
  | 60 => ⟨S4x4096x8x1, .f32⟩
  | 61 => ⟨S4x4096x8x1, .f32⟩
  | 62 => ⟨S_, .f32⟩
  | 63 => ⟨S4x4096x8x1, .f32⟩
  | 64 => ⟨S4x4096x8x1, .f32⟩
  | 65 => ⟨S4x4096x8x1, .f32⟩
  | 66 => ⟨S4x4096x8x64, .f32⟩
  | 67 => ⟨S4x4096x8x64, .f32⟩
  | 68 => ⟨S1x1x1x64, .f32⟩
  | 69 => ⟨S4x4096x8x64, .f32⟩
  | 70 => ⟨S4x4096x8x64, .f32⟩
  | 71 => ⟨S4x4096x512, .f32⟩
  | 72 => ⟨S4x4096x8x64, .f32⟩
  | 73 => ⟨S1x64, .f32⟩
  | 74 => ⟨S64, .f32⟩
  | 75 => ⟨S4x4096x8x64, .f32⟩
  | 76 => ⟨S_, .f32⟩
  | 77 => ⟨S4x4096x8, .f32⟩
  | 78 => ⟨S4x4096x8x1, .f32⟩
  | 79 => ⟨S_, .f32⟩
  | 80 => ⟨S4x4096x8x1, .f32⟩
  | 81 => ⟨S4x4096x8x1, .f32⟩
  | 82 => ⟨S_, .f32⟩
  | 83 => ⟨S4x4096x8x1, .f32⟩
  | 84 => ⟨S4x4096x8x1, .f32⟩
  | 85 => ⟨S4x4096x8x1, .f32⟩
  | 86 => ⟨S4x4096x8x64, .f32⟩
  | 87 => ⟨S4x4096x8x64, .f32⟩
  | 88 => ⟨S1x1x1x64, .f32⟩
  | 89 => ⟨S4x4096x8x64, .f32⟩
  | 90 => ⟨S4x4096x8x64, .f32⟩
  | 91 => ⟨S4x4096x512, .f32⟩
  | 92 => ⟨S1x8, .f32⟩
  | 93 => ⟨S8, .f32⟩
  | 94 => ⟨S1x1x8, .f32⟩
  | 95 => ⟨S4x4096x8, .f32⟩
  | 96 => ⟨S4x4096x8, .f32⟩
  | 97 => ⟨S4x4096x8, .f32⟩
  | 98 => ⟨S_, .f32⟩
  | 99 => ⟨S4x4096x8, .f32⟩
  | 100 => ⟨S4x4096x8, .f32⟩
  | 101 => ⟨S4x4096x8, .f32⟩
  | 102 => ⟨S4x4096x8, .f32⟩
  | 103 => ⟨S4x4096x8, .i1⟩
  | 104 => ⟨S4x4096x8, .f32⟩
  | 105 => ⟨S4x4096x8, .f32⟩
  | 106 => ⟨S4x4096x8, .f32⟩
  | 107 => ⟨S4x4096x8, .f32⟩
  | 108 => ⟨S4x4096x8, .f32⟩
  | 109 => ⟨S4x4096x8, .f32⟩
  | 110 => ⟨S4x4096x8, .f32⟩
  | 111 => ⟨S4x4096x8, .f32⟩
  | 112 => ⟨S4x4096x8, .f32⟩
  | 113 => ⟨S_, .f32⟩
  | 114 => ⟨S4x2x512, .f32⟩
  | 115 => ⟨S4x4096x512, .f32⟩
  | 116 => ⟨S4x4098x512, .f32⟩
  | 117 => ⟨S1x512, .f32⟩
  | 118 => ⟨S512, .f32⟩
  | 119 => ⟨S4x4096x512, .f32⟩
  | 120 => ⟨S1x1x512, .f32⟩
  | 121 => ⟨S512, .f32⟩
  | 122 => ⟨S1x1x512, .f32⟩
  | 123 => ⟨S4x4096x512, .f32⟩
  | 124 => ⟨S4x4096x512, .f32⟩
  | 125 => ⟨S1x1x512, .f32⟩
  | 126 => ⟨S4x4096x512, .f32⟩
  | 127 => ⟨S4x4096x512, .f32⟩
  | _ => ⟨S4x4096x1024, .f32⟩

abbrev hbmTy0_1 (i : Nat) : BufTy := match i % 128 with
  | 0 => ⟨S4x4096x512, .f32⟩
  | 1 => ⟨S1x1x512, .f32⟩
  | 2 => ⟨S512, .f32⟩
  | 3 => ⟨S1x1x512, .f32⟩
  | 4 => ⟨S4x4096x512, .f32⟩
  | 5 => ⟨S4x4096x512, .f32⟩
  | 6 => ⟨S4x4096x512, .f32⟩
  | 7 => ⟨S4x4096x512, .f32⟩
  | 8 => ⟨S1x1x512, .f32⟩
  | 9 => ⟨S512, .f32⟩
  | 10 => ⟨S1x1x512, .f32⟩
  | 11 => ⟨S4x4096x512, .f32⟩
  | 12 => ⟨S4x4096x512, .f32⟩
  | 13 => ⟨S4x4096x512, .f32⟩
  | 14 => ⟨S4x4096x512, .f32⟩
  | 15 => ⟨S4x4096x512, .f32⟩
  | 16 => ⟨S4x4096x512, .f32⟩
  | 17 => ⟨S_, .f32⟩
  | 18 => ⟨S4x4096x512, .f32⟩
  | 19 => ⟨S4x4096x512, .f32⟩
  | 20 => ⟨S_, .f32⟩
  | 21 => ⟨S4x4096x512, .f32⟩
  | 22 => ⟨S4x4096x512, .f32⟩
  | 23 => ⟨S4x4096x512, .f32⟩
  | 24 => ⟨S4x4096x512, .f32⟩
  | 25 => ⟨S_, .f32⟩
  | 26 => ⟨S4x4096x512, .f32⟩
  | 27 => ⟨S4x4096x512, .f32⟩
  | 28 => ⟨S4x4096x512, .bf16⟩
  | 29 => ⟨S4x16x256x512, .f32⟩
  | 30 => ⟨S4x16x512x256, .f32⟩
  | 31 => ⟨S4x16x512x256, .bf16⟩
  | 32 => ⟨S4x4096x512, .bf16⟩
  | 33 => ⟨S4x512x4096, .f32⟩
  | 34 => ⟨S4x512x4096, .f32⟩
  | 35 => ⟨S4x8x4096, .f32⟩
  | 36 => ⟨S4x4096x512, .f32⟩
  | 37 => ⟨S4x4096x512, .f32⟩
  | 38 => ⟨S_, .f32⟩
  | 39 => ⟨S4x4096x512, .f32⟩
  | 40 => ⟨S4x4096x512, .f32⟩
  | 41 => ⟨S_, .f32⟩
  | 42 => ⟨S4x4096x512, .f32⟩
  | 43 => ⟨S4x4096x512, .f32⟩
  | 44 => ⟨S4x4096x512, .f32⟩
  | 45 => ⟨S4x4096x512, .bf16⟩
  | 46 => ⟨S4x2x512, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_6 : Ref sig .tc := ⟨.hbm, 76, rfl⟩
abbrev main_v60 : Ref sig .tc := ⟨.hbm, 77, rfl⟩
abbrev main_v61 : Ref sig .tc := ⟨.hbm, 78, rfl⟩
abbrev main_cst_7 : Ref sig .tc := ⟨.hbm, 79, rfl⟩
abbrev main_v62 : Ref sig .tc := ⟨.hbm, 80, rfl⟩
abbrev main_v63 : Ref sig .tc := ⟨.hbm, 81, rfl⟩
abbrev main_cst_8 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_call0_v0 : Ref sig .tc := ⟨.hbm, 97, rfl⟩
abbrev main_call0_call0_cst : Ref sig .tc := ⟨.hbm, 98, rfl⟩
abbrev main_call0_call0_v0 : Ref sig .tc := ⟨.hbm, 99, rfl⟩
abbrev main_call0_call0_v1 : Ref sig .tc := ⟨.hbm, 100, rfl⟩
abbrev main_call0_call0_v2 : Ref sig .tc := ⟨.hbm, 101, rfl⟩
abbrev main_call0_call0_v3 : Ref sig .tc := ⟨.hbm, 102, rfl⟩
abbrev main_call0_call0_v4 : Ref sig .tc := ⟨.hbm, 103, rfl⟩
abbrev main_call0_call0_v5 : Ref sig .tc := ⟨.hbm, 104, rfl⟩
abbrev main_call0_call0_v6 : Ref sig .tc := ⟨.hbm, 105, rfl⟩
abbrev main_call0_call0_v7 : Ref sig .tc := ⟨.hbm, 106, rfl⟩
abbrev main_call0_call0_v8 : Ref sig .tc := ⟨.hbm, 107, rfl⟩
abbrev main_call0_call0_v9 : Ref sig .tc := ⟨.hbm, 108, rfl⟩
abbrev main_call0_call0_v10 : Ref sig .tc := ⟨.hbm, 109, rfl⟩
abbrev main_call0_call0_v11 : Ref sig .tc := ⟨.hbm, 110, rfl⟩
abbrev main_call0_v1 : Ref sig .tc := ⟨.hbm, 111, rfl⟩
abbrev main_v78 : Ref sig .tc := ⟨.hbm, 112, rfl⟩
abbrev main_cst_9 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_call1_v0 : Ref sig .tc := ⟨.hbm, 143, rfl⟩
abbrev main_call1_v1 : Ref sig .tc := ⟨.hbm, 144, rfl⟩
abbrev main_call1_cst : Ref sig .tc := ⟨.hbm, 145, rfl⟩
abbrev main_call1_v2 : Ref sig .tc := ⟨.hbm, 146, rfl⟩
abbrev main_call1_v3 : Ref sig .tc := ⟨.hbm, 147, rfl⟩
abbrev main_call1_cst_0 : Ref sig .tc := ⟨.hbm, 148, rfl⟩
abbrev main_call1_v4 : Ref sig .tc := ⟨.hbm, 149, rfl⟩
abbrev main_call1_v5 : Ref sig .tc := ⟨.hbm, 150, rfl⟩
abbrev main_v108 : Ref sig .tc := ⟨.hbm, 151, rfl⟩
abbrev main_v109 : Ref sig .tc := ⟨.hbm, 152, rfl⟩
abbrev main_cst_10 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_call2_v0 : Ref sig .tc := ⟨.hbm, 164, rfl⟩
abbrev main_call2_v1 : Ref sig .tc := ⟨.hbm, 165, rfl⟩
abbrev main_call2_cst : Ref sig .tc := ⟨.hbm, 166, rfl⟩
abbrev main_call2_v2 : Ref sig .tc := ⟨.hbm, 167, rfl⟩
abbrev main_call2_v3 : Ref sig .tc := ⟨.hbm, 168, rfl⟩
abbrev main_call2_cst_0 : Ref sig .tc := ⟨.hbm, 169, rfl⟩
abbrev main_call2_v4 : Ref sig .tc := ⟨.hbm, 170, rfl⟩
abbrev main_call2_v5 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x512 : Shape := ⟨3, ![4, 4096, 512]⟩
abbrev S4x1024x1024 : Shape := ⟨3, ![4, 1024, 1024]⟩
abbrev S4x40x1x3072 : Shape := ⟨4, ![4, 40, 1, 3072]⟩
abbrev S1x1024x1024 : Shape := ⟨3, ![1, 1024, 1024]⟩
abbrev S1x1024x512 : Shape := ⟨3, ![1, 1024, 512]⟩
abbrev S1x1x1x1024 : Shape := ⟨4, ![1, 1, 1, 1024]⟩
abbrev S1024x512 : Shape := ⟨2, ![1024, 512]⟩
abbrev S1x512x1024 : Shape := ⟨3, ![1, 512, 1024]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S4x1024x1024, .f32⟩
  | .hbm, ⟨4, _⟩ => ⟨S4x40x1x3072, .f32⟩
  | .hbm, ⟨5, _⟩ => ⟨S4x1024x1024, .bf16⟩
  | .hbm, ⟨6, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x1024, .bf16⟩
  | .local _ .vmem, ⟨7, _⟩ => ⟨S1x1x1x1024, .f32⟩
  | .local _ .vmem, ⟨8, _⟩ => ⟨S1x1x1x1024, .f32⟩
  | .local _ .vmem, ⟨9, _⟩ => ⟨S1x1024x1024, .f32⟩
  | .local _ .vmem, ⟨10, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c2_i32 : BitVec 32 := 2#32
  let c0_i32_1 : BitVec 32 := 0#32
  ![c0_i32.toNat, arg0.toNat, c0_i32_0.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S4x4096x1024 : Shape := ⟨3, ![4, 4096, 1024]⟩
abbrev S4x4096x512 : Shape := ⟨3, ![4, 4096, 512]⟩
abbrev S4x1024x1024 : Shape := ⟨3, ![4, 1024, 1024]⟩
abbrev S4x40x1x3072 : Shape := ⟨4, ![4, 40, 1, 3072]⟩
abbrev S1x4x1x1024 : Shape := ⟨4, ![1, 4, 1, 1024]⟩
abbrev S4x1024 : Shape := ⟨2, ![4, 1024]⟩
abbrev S4x1x1024 : Shape := ⟨3, ![4, 1, 1024]⟩
abbrev S1x1024x1024 : Shape := ⟨3, ![1, 1024, 1024]⟩
abbrev S1024x1024 : Shape := ⟨2, ![1024, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S4x1024x1024, .f32⟩
  | .hbm, ⟨4, _⟩ => ⟨S4x40x1x3072, .f32⟩
  | .hbm, ⟨5, _⟩ => ⟨S1x4x1x1024, .f32⟩
  | .hbm, ⟨6, _⟩ => ⟨S4x1024, .f32⟩
  | .hbm, ⟨7, _⟩ => ⟨S4x1x1024, .f32⟩
  | .hbm, ⟨8, _⟩ => ⟨S4x4096x512, .f32⟩
  | .hbm, ⟨9, _⟩ => ⟨S4x4096x512, .f32⟩
  | .hbm, ⟨10, _⟩ => ⟨S4x4096x1024, .f32⟩
  | .hbm, ⟨11, _⟩ => ⟨S1x1024x1024, .f32⟩
  | .hbm, ⟨12, _⟩ => ⟨S1024x1024, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Proof.OnlineSoftmax.lean ====
/-
  The softmax of a row of scores, computed one stretch of keys at a time, over the extended reals.

  A row is given by its scores `s : ℕ → EReal` and the values `v : ℕ → EReal` of its keys. Over the first `n` keys,
  `peak` is the largest score, `mass` the sum of `2 ^ (score - peak)`, and `blend` the same sum weighted by the values.
  A further stretch of `t` keys moves the three on by one rescaling (`peak_add`, `mass_add`, `blend_add`); the law of
  exponents behind it, `exp2_rescale`, holds for infinite scores as well. Keys whose score is `-∞` change nothing
  (`peak_of_bot`, `mass_of_bot`, `blend_of_bot`). `softmax_eq` is the comparison with the textbook softmax: to the base
  `e`, with scores that differ by a factor `log 2` and a constant of the row.
-/
module

public import Idealize.ShloMosaic.PureOps.Ideal

@[expose] public section

noncomputable section

namespace Cert.Softmax

open Idealize.ShloMosaic Finset

/-- A finite nonnegative factor goes into a sum, whatever the terms. -/
theorem mul_sum_of_nonneg {ι : Type} (A : Finset ι) (f : ι → EReal) {a : EReal} (h0 : 0 ≤ a) (ht : a ≠ ⊤) :
    a * ∑ i ∈ A, f i = ∑ i ∈ A, a * f i := by
  classical
  induction A using Finset.induction_on with
  | empty => simp
  | insert i A hi ih => rw [sum_insert hi, sum_insert hi, EReal.left_distrib_of_nonneg_of_ne_top h0 ht, ih]

/-- A sum of reals is a real. -/
theorem coe_sum {ι : Type} (A : Finset ι) (f : ι → ℝ) : ∑ i ∈ A, (f i : EReal) = ((∑ i ∈ A, f i : ℝ) : EReal) := by
  classical
  induction A using Finset.induction_on with
  | empty => simp
  | insert i A hi ih => rw [sum_insert hi, sum_insert hi, ih, EReal.coe_add]

theorem exp2_nonneg (x : EReal) : 0 ≤ Ideal.exp2 x := by
  induction x with
  | bot => simp
  | top => simp
  | coe r => rw [Ideal.exp2_coe]; exact EReal.coe_nonneg.mpr (Real.rpow_nonneg (by norm_num) r)

/-- `2 ^ (a - b)` is finite when `a ≤ b`. -/
theorem exp2_sub_ne_top {a b : EReal} (h : a ≤ b) : Ideal.exp2 (a - b) ≠ ⊤ := by
  induction b with
  | bot => rw [le_bot_iff.mp h, EReal.bot_sub, Ideal.exp2_bot]; exact EReal.zero_ne_top
  | top => rw [EReal.sub_top, Ideal.exp2_bot]; exact EReal.zero_ne_top
  | coe y =>
    induction a with
    | bot => rw [EReal.bot_sub, Ideal.exp2_bot]; exact EReal.zero_ne_top
    | top => exact absurd h (by simp)
    | coe x => rw [← EReal.coe_sub, Ideal.exp2_coe]; exact EReal.coe_ne_top _

/-- Moving a weight from the peak `m` to a later peak `m'`: for `s ≤ m ≤ m'`,
    `2 ^ (m - m') * 2 ^ (s - m) = 2 ^ (s - m')`. -/
theorem exp2_rescale {s m m' : EReal} (h : s ≤ m) (h' : m ≤ m') :
    Ideal.exp2 (m - m') * Ideal.exp2 (s - m) = Ideal.exp2 (s - m') := by
  induction s with
  | bot => simp
  | top => rw [top_le_iff.mp h] at h' ⊢; rw [top_le_iff.mp h']; simp
  | coe x =>
    induction m with
    | bot => exact absurd h (by simp)
    | top => rw [top_le_iff.mp h']; simp
    | coe y =>
      induction m' with
      | bot => exact absurd h' (by simp)
      | top => simp
      | coe z =>
        rw [← EReal.coe_sub, ← EReal.coe_sub, ← EReal.coe_sub, Ideal.exp2_coe, Ideal.exp2_coe, Ideal.exp2_coe,
          ← EReal.coe_mul]
        congr 1
        show (2 : ℝ) ^ (y - z) * (2 : ℝ) ^ (x - y) = (2 : ℝ) ^ (x - z)
        rw [← Real.rpow_add (by norm_num)]
        congr 1; ring

variable (s v : ℕ → EReal)

/-- The largest score of the first `n` keys. -/
def peak (n : ℕ) : EReal := (range n).sup s

/-- The weights of the first `n` keys, added up. -/
def mass (n : ℕ) : EReal := ∑ i ∈ range n, Ideal.exp2 (s i - peak s n)

/-- The values of the first `n` keys, weighted and added up. -/
def blend (n : ℕ) : EReal := ∑ i ∈ range n, v i * Ideal.exp2 (s i - peak s n)

theorem peak_zero : peak s 0 = ⊥ := rfl
theorem mass_zero : mass s 0 = 0 := rfl
theorem blend_zero : blend s v 0 = 0 := rfl

theorem le_peak {n i : ℕ} (h : i < n) : s i ≤ peak s n := le_sup (f := s) (mem_range.mpr h)

theorem peak_add (n t : ℕ) :
    peak s (n + t) = max (peak s n) ((univ : Finset (Fin t)).fold max ⊥ fun c : Fin t => s (n + c)) := by
  show _ = max (peak s n) ((univ : Finset (Fin t)).sup fun c : Fin t => s (n + c))
  apply le_antisymm
  · refine Finset.sup_le fun i hi => ?_
    have hi := mem_range.mp hi
    by_cases h : i < n
    · exact le_max_of_le_left (le_peak s h)
    · refine le_max_of_le_right ?_
      have := le_sup (f := fun c : Fin t => s (n + c)) (mem_univ ⟨i - n, by omega⟩)
      rwa [show n + (i - n) = i by omega] at this
  · refine max_le (Finset.sup_le fun i hi => le_peak s (by have := mem_range.mp hi; omega)) ?_
    exact Finset.sup_le fun c _ => le_peak s (by have := c.isLt; omega)

/-- The rescaling of a weighted sum over the first `n` keys to the peak after `t` more, and those keys added. -/
theorem weighted_add (w : ℕ → EReal) (n t : ℕ) :
    ∑ i ∈ range (n + t), w i * Ideal.exp2 (s i - peak s (n + t))
      = Ideal.exp2 (peak s n - peak s (n + t)) * (∑ i ∈ range n, w i * Ideal.exp2 (s i - peak s n))
        + ∑ c : Fin t, w (n + c) * Ideal.exp2 (s (n + c) - peak s (n + t)) := by
  have hm : peak s n ≤ peak s (n + t) := by rw [peak_add]; exact le_max_left _ _
  rw [sum_range_add, mul_sum_of_nonneg _ _ (exp2_nonneg _) (exp2_sub_ne_top hm),
    Fin.sum_univ_eq_sum_range fun c => w (n + c) * Ideal.exp2 (s (n + c) - peak s (n + t))]
  congr 1
  refine sum_congr rfl fun i hi => ?_
  rw [mul_left_comm, exp2_rescale (le_peak s (mem_range.mp hi)) hm]

theorem mass_add (n t : ℕ) :
    mass s (n + t) = Ideal.exp2 (peak s n - peak s (n + t)) * mass s n
      + ∑ c : Fin t, Ideal.exp2 (s (n + c) - peak s (n + t)) := by
  have h := weighted_add s (fun _ => 1) n t
  simp only [one_mul] at h
  exact h

theorem blend_add (n t : ℕ) :
    blend s v (n + t) = Ideal.exp2 (peak s n - peak s (n + t)) * blend s v n
      + ∑ c : Fin t, v (n + c) * Ideal.exp2 (s (n + c) - peak s (n + t)) :=
  weighted_add s v n t

section tail

variable {n N : ℕ} (h : n ≤ N) (hs : ∀ i, n ≤ i → s i = ⊥)
include h hs

theorem peak_of_bot : peak s N = peak s n := by
  apply le_antisymm
  · refine Finset.sup_le fun i _ => ?_
    by_cases hi : i < n
    · exact le_peak s hi
    · rw [hs i (by omega)]; exact bot_le
  · exact Finset.sup_le fun i hi => le_peak s (by have := mem_range.mp hi; omega)

theorem mass_of_bot : mass s N = mass s n := by
  unfold mass
  rw [peak_of_bot s h hs]
  refine (sum_subset (range_mono h) fun i _ hi => ?_).symm
  rw [hs i (by simpa using hi), EReal.bot_sub, Ideal.exp2_bot]

theorem blend_of_bot : blend s v N = blend s v n := by
  unfold blend
  rw [peak_of_bot s h hs]
  refine (sum_subset (range_mono h) fun i _ hi => ?_).symm
  rw [hs i (by simpa using hi), EReal.bot_sub, Ideal.exp2_bot, mul_zero]

end tail

/-- Scores that agree on the first `n` keys give one peak, mass and blend. -/
theorem peak_congr {s' : ℕ → EReal} {n : ℕ} (h : ∀ i, i < n → s i = s' i) : peak s n = peak s' n :=
  Finset.sup_congr rfl fun i hi => h i (mem_range.mp hi)

theorem mass_congr {s' : ℕ → EReal} {n : ℕ} (h : ∀ i, i < n → s i = s' i) : mass s n = mass s' n := by
  unfold mass
  rw [peak_congr s h]
  exact sum_congr rfl fun i hi => by rw [h i (mem_range.mp hi)]

theorem blend_congr {s' : ℕ → EReal} {n : ℕ} (h : ∀ i, i < n → s i = s' i) : blend s v n = blend s' v n := by
  unfold blend
  rw [peak_congr s h]
  exact sum_congr rfl fun i hi => by rw [h i (mem_range.mp hi)]

/-- A causal row: the scores `x` up to position `p`, `-∞` beyond. -/
def causal (p : ℕ) (x : ℕ → EReal) (i : ℕ) : EReal := if i ≤ p then x i else ⊥

/-- The textbook softmax of a causal row, weighted by the values: to the base `e`, of scores `t` that are
    `log 2 * (x + f)` up to position `p` and `-∞` beyond, is the quotient of blend and mass of the causal row. -/
theorem softmax_eq {N p : ℕ} (hp : p < N) (x : ℕ → ℝ) (f : ℝ) (t : Fin N → EReal)
    (ht : ∀ i : Fin N, t i = if (i : ℕ) ≤ p then ((Real.log 2 * (x i + f) : ℝ) : EReal) else ⊥)
    (M : EReal) (hM : M = (univ : Finset (Fin N)).fold max ⊥ t) :
    ∑ i : Fin N, v i * Ideal.div (Ideal.exp (t i - M)) (∑ j : Fin N, Ideal.exp (t j - M))
      = Ideal.div (blend (causal p fun i => (x i : EReal)) v N) (mass (causal p fun i => (x i : EReal)) N) := by
  obtain ⟨k, hk, hmax⟩ := exists_max_image (range (p + 1)) x ⟨0, by simp⟩
  have hk := mem_range.mp hk
  have hlog : 0 < Real.log 2 := Real.log_pos (by norm_num)
  set s := causal p fun i => (x i : EReal) with hs
  have hpeak : peak s N = (x k : EReal) := by
    apply le_antisymm
    · refine Finset.sup_le fun i _ => ?_
      rw [hs]; unfold causal
      split
      · exact EReal.coe_le_coe_iff.mpr (hmax i (by simp; omega))
      · exact bot_le
    · have := le_peak s (show k < N by omega)
      rwa [hs, causal, if_pos (by omega)] at this
  have hMr : M = ((Real.log 2 * (x k + f) : ℝ) : EReal) := by
    rw [hM]
    show (univ : Finset (Fin N)).sup t = _
    apply le_antisymm
    · refine Finset.sup_le fun i _ => ?_
      rw [ht]
      split
      · refine EReal.coe_le_coe_iff.mpr (mul_le_mul_of_nonneg_left ?_ hlog.le)
        have := hmax i (by simp; omega); linarith
      · exact bot_le
    · have := le_sup (f := t) (mem_univ ⟨k, by omega⟩)
      rwa [ht, if_pos (show k ≤ p by omega)] at this
  -- the weight of key `i`, a real
  let e : ℕ → ℝ := fun i => if i ≤ p then (2 : ℝ) ^ (x i - x k) else 0
  have he2 : ∀ i, Ideal.exp2 (s i - peak s N) = (e i : EReal) := by
    intro i
    rw [hpeak, hs]; unfold causal
    by_cases hi : i ≤ p
    · simp only [e, if_pos hi]; rw [← EReal.coe_sub, Ideal.exp2_coe]; rfl
    · simp only [e, if_neg hi]; rw [EReal.bot_sub, Ideal.exp2_bot, EReal.coe_zero]
  have he : ∀ i : Fin N, Ideal.exp (t i - M) = (e i : EReal) := by
    intro i
    rw [hMr, ht]
    by_cases hi : (i : ℕ) ≤ p
    · simp only [e, if_pos hi]; rw [← EReal.coe_sub, Ideal.exp_coe, Real.rpow_def_of_pos (by norm_num)]
      congr 2; ring
    · simp only [e, if_neg hi]; rw [EReal.bot_sub, Ideal.exp_bot, EReal.coe_zero]
  have hnn : ∀ i, 0 ≤ e i := by
    intro i; simp only [e]; split
    · exact Real.rpow_nonneg (by norm_num) _
    · exact le_rfl
  have hpos : 0 < ∑ i ∈ range N, e i := by
    refine sum_pos' (fun i _ => hnn i) ⟨k, mem_range.mpr (by omega), ?_⟩
    simp only [e, if_pos (show k ≤ p by omega)]
    exact Real.rpow_pos_of_pos (by norm_num) _
  have hmass : mass s N = ((∑ i ∈ range N, e i : ℝ) : EReal) := by
    unfold mass
    rw [← coe_sum]
    exact sum_congr rfl fun i _ => he2 i
  have hden : ∑ j : Fin N, Ideal.exp (t j - M) = ((∑ i ∈ range N, e i : ℝ) : EReal) := by
    rw [← coe_sum, ← Fin.sum_univ_eq_sum_range fun i => (e i : EReal)]
    exact sum_congr rfl fun i _ => he i
  rw [hmass, hden]
  unfold blend
  rw [Ideal.div_coe hpos.ne', mul_comm (∑ i ∈ range N, _), mul_sum_of_nonneg _ _
    (EReal.coe_nonneg.mpr (by positivity)) (EReal.coe_ne_top _),
    ← Fin.sum_univ_eq_sum_range fun i => _ * (v i * Ideal.exp2 (s i - peak s N))]
  refine sum_congr rfl fun i _ => ?_
  rw [Ideal.div_coe hpos.ne', he i, he2 i, mul_comm _ (v i * _), mul_assoc]

end Cert.Softmax

end
-- ==== Proof.Attend.lean ====
/-
  The attention as a function of its five argument arrays: what both programs are shown to compute.

  Queries and keys are 4 batches of 4096 positions of 8 heads with 64 numbers each, the values are stored transposed
  in 16 pieces of 256 positions, the fourth array holds the cumulative log-forget of each head, the fifth the gate.
-/
module

public import proofs.«01_k».proof.Proof.OnlineSoftmax
public import Idealize.ShloMosaic.Lib.Pointwise

@[expose] public section

noncomputable section

namespace Cert.Attend

open Cert.Softmax Idealize.ShloMosaic

abbrev Rows : Shape := ⟨3, ![4, 4096, 512]⟩
abbrev Pieces : Shape := ⟨4, ![4, 16, 512, 256]⟩
abbrev Heads : Shape := ⟨3, ![4, 8, 4096]⟩

/-- The column of number `d` of head `h`. -/
def col (h : Fin 8) (d : Fin 64) : Fin 512 := ⟨64 * h + d, by omega⟩

/-- Every column is a number of a head. -/
theorem exists_col (l : Fin 512) : ∃ h d, l = col h d :=
  ⟨⟨l / 64, by omega⟩, ⟨l % 64, by omega⟩, Fin.ext (Nat.div_add_mod l.val 64).symm⟩

variable (q k : FVec Ideal Rows .bf16) (vt : FVec Ideal Pieces .bf16) (f : FVec Ideal Heads .f32)
  (z : FVec Ideal Rows .f32)

/-- The score of key `j` against query `p`, but for the query's own log-forget. -/
def rowScore (b : Fin 4) (h : Fin 8) (p : Fin 4096) (j : ℕ) : EReal :=
  ∑ d : Fin 64, k (ix3 b (Fin.ofNat 4096 j) (col h d)) * q (ix3 b p (col h d)) - f (ix3 b h (Fin.ofNat 4096 j))

/-- Number `d` of the value of key `j`. -/
def rowValue (b : Fin 4) (h : Fin 8) (d : Fin 64) (j : ℕ) : EReal :=
  vt (ix4 b (Fin.ofNat 16 (j / 256)) (col h d) (Fin.ofNat 256 j))

/-- One element of the result: the causal row's blend over its mass, times the gate. -/
def element (b : Fin 4) (p : Fin 4096) (h : Fin 8) (d : Fin 64) : EReal :=
  Ideal.div (blend (causal p (rowScore q k f b h p)) (rowValue vt b h d) 4096)
    (mass (causal p (rowScore q k f b h p)) 4096) * z (ix3 b p (col h d))

/-- The result array. -/
def attend : FVec Ideal Rows .bf16 := fun i =>
  element q k vt f z (i 0) (i 1) ⟨(i 2 : Fin 512) / 64, by have := (i 2).isLt; simp at this; omega⟩
    ⟨(i 2 : Fin 512) % 64, by omega⟩

theorem attend_col (b : Fin 4) (p : Fin 4096) (h : Fin 8) (d : Fin 64) :
    attend q k vt f z (ix3 b p (col h d)) = element q k vt f z b p h d := by
  have h1 : (64 * (h : ℕ) + d) / 64 = h := by omega
  have h2 : (64 * (h : ℕ) + d) % 64 = d := by omega
  show element q k vt f z b p ⟨(64 * (h : ℕ) + d) / 64, _⟩ ⟨(64 * (h : ℕ) + d) % 64, _⟩ = _
  congr 1 <;> exact Fin.ext (by assumption)

end Cert.Attend

end
-- ==== Proof.Numbers.lean ====
/-
  Two facts about numbers both programs spell: the pattern of minus infinity, and the comparison of small positions held
  as 32-bit integers.
-/
module

public import Idealize.ShloMosaic.Lib.Pointwise

@[expose] public section

namespace Cert.Numbers

open Idealize.ShloMosaic

theorem neg_inf : Ideal.ofBits .f32 0xFF800000#32 = ⊥ := by simp [Ideal.ofBits, Ideal.ieee]

/-- Comparing two small numbers as 32-bit integers is comparing them. -/
theorem sle_small {a b : ℕ} (ha : a < 2 ^ 31) (hb : b < 2 ^ 31) :
    IntOp.cmpi .sle (BitVec.ofNat 32 a) (BitVec.ofNat 32 b) = if a ≤ b then 1#1 else 0#1 := by
  have h : ∀ n : ℕ, n < 2 ^ 31 → (BitVec.ofNat 32 n).toInt = n := fun n hn => by
    rw [BitVec.toInt_eq_toNat_of_lt (by rw [BitVec.toNat_ofNat]; omega), BitVec.toNat_ofNat]; omega
  show BitVec.ofBool (BitVec.sle _ _) = _
  rw [BitVec.sle, h a ha, h b hb]
  by_cases hab : a ≤ b <;> simp [hab]

end Cert.Numbers

end
-- ==== Proof.Block.lean ====
/-
  What one grid point of the attention kernel leaves in its output block, as a term over its input blocks.

  A point works on 256 query positions of one pair of heads. It goes through the key tiles strictly before the
  diagonal tile, carrying for each of the two heads the running maximum, the running sum of weights and the weighted
  values (`Carry`); `stepOf` is one tile's change of the carries, `carry` the carries before tile `k`, and `finish` the
  masked diagonal tile, the two quotients and the gate. `block_eq` says that the generated run leaves exactly that.
  The kernel's second loop (the remainder of the first, which is unrolled by one) makes no trip at any point.
-/
module

public import proofs.«01_k».proof.Proof.Gen.KernelIdeal.Frame
public import Idealize.ShloMosaic.Lib.Tactic
public import Idealize.ShloMosaic.Lib.Pipeline.Value

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.Sem

variable {F : FTy → Type} [FloatOps F]

/-- The first loop goes through the tiles before the diagonal one: as many as the point's third coordinate. -/
theorem trips1 (i : grid0.Coords) : (k0_t1_loop i).trips = (i 2).val := by
  unfold k0_t1_loop
  generalize i 2 = q
  revert q
  decide +kernel

/-- The second loop makes no trip. -/
theorem trips2 (i : grid0.Coords) : (k0_t2_loop i).trips = 0 := by
  unfold k0_t2_loop
  generalize i 2 = q
  revert q
  decide +kernel

/-- Maximum, sum of weights and weighted values of the pair's first head, then of its second. -/
abbrev Carry (F : FTy → Type) : Type := FVec F S1x256 .f32 × FVec F S1x256 .f32 × FVec F S64x256 .f32 × FVec F S1x256 .f32 × FVec F S1x256 .f32 × FVec F S64x256 .f32

/-- The carries before the first tile: maximum `-∞`, the rest zero. -/
def carry0 : Carry F := (k0_pay24, k0_pay25, k0_pay26, k0_pay27, k0_pay28, k0_pay29)

/-- One tile: the carries after it, from the point's queries and the tile's keys, forgets and values. -/
def stepOf (v0 : Vec F S1x256x128 .bf16) (kt : Vec F S1x256x128 .bf16) (f0 f1 : Vec F S1x1x256x1 .f32)
    (w0 w1 : Vec F S1x1x64x256 .bf16) (a : Carry F) : Carry F :=
  (k0_pay4 (k0_pay22 v0) a.1 kt f0, k0_pay7 (k0_pay22 v0) a.1 a.2.1 kt f0, k0_pay8 (k0_pay22 v0) a.1 a.2.2.1 kt f0 w0,
    k0_pay31 a.2.2.2.1 (k0_pay9 (k0_pay23 v0) kt) (k0_pay10 f1),
    k0_pay34 a.2.2.2.1 a.2.2.2.2.1 (k0_pay9 (k0_pay23 v0) kt) (k0_pay10 f1),
    k0_pay35 a.2.2.2.1 a.2.2.2.2.2 (k0_pay9 (k0_pay23 v0) kt) (k0_pay10 f1) w1)

/-- The diagonal tile, the quotients and the gate. -/
def finish (v0 : Vec F S1x256x128 .bf16) (kt : Vec F S1x256x128 .bf16) (f0 f1 : Vec F S1x1x256x1 .f32)
    (w0 w1 : Vec F S1x1x64x256 .bf16) (sz : Vec F S1x256x128 .f32) (a : Carry F) : Vec F S1x256x128 .bf16 :=
  k0_pay1 a.2.2.2.2.1 a.2.2.2.2.2 (k0_pay48 a.1 a.2.1 (k0_pay43 v0 kt) f0)
    (k0_pay49 a.1 a.2.2.1 (k0_pay43 v0 kt) f0 w0) (k0_pay50 (k0_pay23 v0) (k0_pay42 kt) f1)
    (k0_pay51 (k0_pay23 v0) a.2.2.2.1 (k0_pay42 kt) f1) (k0_pay52 (k0_pay23 v0) a.2.2.2.1 (k0_pay42 kt) f1) w1 sz

section point

variable (𝒱 : Variants) (c : Dev nD) (bd : Option 𝒱.V) (i : grid0.Coords) (arg3 : Memref sig .tc .vmem S1x256x128 .bf16) (harg3 : arg3.IsWhole) (arg4 : Memref sig .tc .vmem S1x4096x128 .bf16) (harg4 : arg4.IsWhole) (arg5 : Memref sig .tc .vmem S1x16x128x256 .bf16) (harg5 : arg5.IsWhole) (arg6 : Memref sig .tc .vmem S1x1x4096x2 .f32) (harg6 : arg6.IsWhole) (arg7 : Memref sig .tc .vmem S1x256x128 .f32) (harg7 : arg7.IsWhole) (arg8 : Memref sig .tc .vmem S1x256x128 .bf16) (harg8 : arg8.IsWhole)

/-- The carries before tile `k`. -/
def carry (v0 : Vec F S1x256x128 .bf16) (x1 : Vec F S1x4096x128 .bf16) (x2 : Vec F S1x16x128x256 .bf16) (x3 : Vec F S1x1x4096x2 .f32) : ℕ → Carry F
  | 0 => carry0
  | k + 1 => if h : k < (k0_t1_loop i).trips then stepOf v0 (View.ld x1 (Rect.unit (k0_off1 i ⟨k, h⟩) S1x256x128.size (k0_off1_inb i ⟨k, h⟩)))
      (View.ld x3 (Rect.unit (k0_off2 i ⟨k, h⟩) S1x1x256x1.size (k0_off2_inb i ⟨k, h⟩)))
      (View.ld x3 (Rect.unit (k0_off4 i ⟨k, h⟩) S1x1x256x1.size (k0_off4_inb i ⟨k, h⟩)))
      (View.ld x2 (Rect.unit (k0_off3 i ⟨k, h⟩) S1x1x64x256.size (k0_off3_inb i ⟨k, h⟩)))
      (View.ld x2 (Rect.unit (k0_off5 i ⟨k, h⟩) S1x1x64x256.size (k0_off5_inb i ⟨k, h⟩))) (carry v0 x1 x2 x3 k)
     else carry v0 x1 x2 x3 k

theorem carry_succ (v0 : Vec F S1x256x128 .bf16) (x1 : Vec F S1x4096x128 .bf16) (x2 : Vec F S1x16x128x256 .bf16) (x3 : Vec F S1x1x4096x2 .f32) (k : ℕ) (h : k < (k0_t1_loop i).trips) :
    carry i v0 x1 x2 x3 (k + 1) = stepOf v0 (View.ld x1 (Rect.unit (k0_off1 i ⟨k, h⟩) S1x256x128.size (k0_off1_inb i ⟨k, h⟩)))
      (View.ld x3 (Rect.unit (k0_off2 i ⟨k, h⟩) S1x1x256x1.size (k0_off2_inb i ⟨k, h⟩)))
      (View.ld x3 (Rect.unit (k0_off4 i ⟨k, h⟩) S1x1x256x1.size (k0_off4_inb i ⟨k, h⟩)))
      (View.ld x2 (Rect.unit (k0_off3 i ⟨k, h⟩) S1x1x64x256.size (k0_off3_inb i ⟨k, h⟩)))
      (View.ld x2 (Rect.unit (k0_off5 i ⟨k, h⟩) S1x1x64x256.size (k0_off5_inb i ⟨k, h⟩))) (carry i v0 x1 x2 x3 k) := dif_pos h

/-- The generated recursion of the first loop is `carry`. -/
theorem st_eq (v0 : Vec F S1x256x128 .bf16) (x1 : Vec F S1x4096x128 .bf16) (x2 : Vec F S1x16x128x256 .bf16) (x3 : Vec F S1x1x4096x2 .f32) (n : ℕ) (hn : n ≤ (k0_t1_loop i).trips) :
  st_k0_t1 (F := F) 𝒱 c bd i arg3 harg3 arg4 harg4 arg5 harg5 arg6 harg6 arg7 harg7 arg8 harg8 v0 (harg4.unread x1) (harg5.unread x2) (harg6.unread x3) carry0 n = carry i v0 x1 x2 x3 n := by
  induction n with
  | zero => rfl
  | succ n ih =>
    refine (st_k0_t1_succ (k := ⟨n, hn⟩) ..).trans ?_
    rw [ih (Nat.le_of_succ_le hn), carry_succ _ _ _ _ _ _ hn]
    generalize carry i v0 x1 x2 x3 n = a
    unfold tripR_k0_t1 trip_k0_t1
    dsimp only
    sl_unfold_words
    simp only [View.readAt_eq_ld, harg4.read_unread, harg5.read_unread, harg6.read_unread]
    rfl

theorem hz : (![0, 0, 0] : Fin 3 → Nat) = fun _ => 0 := funext fun a => by fin_cases a <;> rfl

/-- The output block of a point. -/
theorem block_eq (x0 x1 x2 x3 x4) :
   out0_A_5 (F := F) c i arg3 harg3 arg4 harg4 arg5 harg5 arg6 harg6 arg7 harg7 arg8 harg8 x0 x1 x2 x3 x4 =
    finish x0 (View.ld x1 (Rect.unit (k0_off11 i) S1x256x128.size (k0_off11_inb i)))
      (View.ld x3 (Rect.unit (k0_off12 i) S1x1x256x1.size (k0_off12_inb i)))
      (View.ld x3 (Rect.unit (k0_off14 i) S1x1x256x1.size (k0_off14_inb i)))
      (View.ld x2 (Rect.unit (k0_off13 i) S1x1x64x256.size (k0_off13_inb i)))
      (View.ld x2 (Rect.unit (k0_off15 i) S1x1x64x256.size (k0_off15_inb i))) x4 (carry i x0 x1 x2 x3 (k0_t1_loop i).trips) := by
  unfold out0_A_5
  rw [View.read_writes_eq_canon _ _ _ (cover0_A_5 c i _ _ _ _ _ _ _ _ _ _ _ _ _ _ _ _ _)]
  unfold kernelRun0_A
  dsimp only
  rw [View.canon_unit_zero hz]
  have h2 := trips2 i
  dsimp only [k0_t2_loop, Scf.Loop.trips] at h2
  sl_unfold_words
  simp only [View.readAt_eq_ld, harg3.read_unread, harg4.read_unread, harg5.read_unread, harg6.read_unread, harg7.read_unread, h2, st_k0_t2_zero]
  have h0 : (View.ld x0 (Rect.unit ![0, 0, 0] ![1, 256, 128] inb_S1x256x128_S1x256x128_0_0_0)) = x0 := View.ld_unit_zero (S := S1x256x128) hz _ _
  have h4 : (View.ld x4 (Rect.unit ![0, 0, 0] ![1, 256, 128] inb_S1x256x128_S1x256x128_0_0_0)) = x4 := View.ld_unit_zero (S := S1x256x128) hz _ _
  rw [h0, h4, ← st_eq Variants.none c none i arg3 harg3 arg4 harg4 arg5 harg5 arg6 harg6 arg7 harg7 arg8 harg8 x0 x1 x2 x3 _ le_rfl]
  rfl

end point

end Cert.KernelIdeal.Attn

end
-- ==== Proof.Tile.lean ====
/-
  The output block of one grid point, element by element, over the extended reals.

  For each head of the pair, query position `r` of the block and key position `j`, `score` is the product of query and
  key over the head's 64 lanes less the key's forget, and `value` the key's value in lane `d`. The carries of the loop
  are peak, mass and blend of those scores (`Holds`), one tile being one stretch of 256 keys (`Holds.step`); the
  diagonal tile is one more such stretch of the causal row. `block_at` is the result: blend over mass of the causal
  row over all 4096 keys, times the gate.
-/
module

public import proofs.«01_k».proof.Proof.Numbers
public import proofs.«01_k».proof.Proof.Block
public import proofs.«01_k».proof.Proof.OnlineSoftmax
public import Idealize.ShloMosaic.Lib.Pointwise

@[expose] public section

set_option maxRecDepth 16384

noncomputable section

namespace Cert.KernelIdeal.Attn

open Cert.KernelIdeal Cert.KernelIdeal.Gen Cert.Softmax Cert.Numbers
open Idealize.ShloMosaic Idealize.ShloMosaic.TcCoe

theorem slt_64 : ∀ l : Fin 128, IntOp.cmpi .slt (BitVec.ofNat 32 l) 64#32 = if (l : ℕ) < 64 then 1#1 else 0#1 := by
  decide
theorem sge_64 : ∀ l : Fin 128, IntOp.cmpi .sge (BitVec.ofNat 32 l) 64#32 = if (l : ℕ) < 64 then 0#1 else 1#1 := by
  decide

/-! ## The carries as peak, mass and blend -/

/-- The carries of one head hold peak, mass and blend of the first `n` keys, for every query row and value lane. -/
structure Holds (s : Fin 256 → ℕ → EReal) (v : Fin 64 → ℕ → EReal) (n : ℕ) (m l : Fin 256 → EReal)
    (acc : Fin 64 → Fin 256 → EReal) : Prop where
  peak : ∀ r, m r = Softmax.peak (s r) n
  mass : ∀ r, l r = Softmax.mass (s r) n
  blend : ∀ d r, acc d r = Softmax.blend (s r) (v d) n

/-- One tile of 256 keys moves them on, whatever the tile's scores are called. -/
theorem Holds.step {s : Fin 256 → ℕ → EReal} {v : Fin 64 → ℕ → EReal} {n : ℕ} {m l m' l' : Fin 256 → EReal}
    {acc acc' : Fin 64 → Fin 256 → EReal} (h : Holds s v n m l acc)
    (S : Fin 256 → Fin 256 → EReal) (hS : ∀ c r, S c r = s r (n + c))
    (V : Fin 64 → Fin 256 → EReal) (hV : ∀ d c, V d c = v d (n + c))
    (hm : ∀ r, m' r = max (m r) ((Finset.univ : Finset (Fin 256)).fold max ⊥ fun c => S c r))
    (hl : ∀ r, l' r = Ideal.exp2 (m r - m' r) * l r + ∑ c : Fin 256, Ideal.exp2 (S c r - m' r))
    (ha : ∀ d r, acc' d r = Ideal.exp2 (m r - m' r) * acc d r + ∑ c : Fin 256, V d c * Ideal.exp2 (S c r - m' r)) :
    Holds s v (n + 256) m' l' acc' := by
  have hp : ∀ r, m' r = Softmax.peak (s r) (n + 256) := fun r => by
    rw [hm, peak_add, h.peak]; simp only [hS]
  refine ⟨hp, fun r => ?_, fun d r => ?_⟩
  · rw [hl, mass_add, hp, h.peak, h.mass]; simp only [hS]
  · rw [ha, blend_add, hp, h.peak, h.blend]; simp only [hS, hV]

/-- Scores that agree on the first `n` keys. -/
theorem Holds.congr {s s' : Fin 256 → ℕ → EReal} {v : Fin 64 → ℕ → EReal} {n : ℕ} {m l : Fin 256 → EReal}
    {acc : Fin 64 → Fin 256 → EReal} (h : Holds s v n m l acc) (hs : ∀ r i, i < n → s r i = s' r i) :
    Holds s' v n m l acc :=
  ⟨fun r => (h.peak r).trans (peak_congr _ (hs r)), fun r => (h.mass r).trans (mass_congr _ (hs r)),
    fun d r => (h.blend d r).trans (blend_congr _ _ (hs r))⟩

/-! ## A block's scores and values -/

/-- Lane `d` of head `a` among the pair's 128 lanes. -/
def lane (a : Fin 2) (d : Fin 64) : Fin 128 := ⟨64 * a + d, by omega⟩

/-- Score of key position `j` for query row `r` of the block, head `a` of the pair. -/
def score (x0 : Vec Ideal S1x256x128 .bf16) (x1 : Vec Ideal S1x4096x128 .bf16) (x3 : Vec Ideal S1x1x4096x2 .f32)
    (a : Fin 2) (r : Fin 256) (j : ℕ) : EReal :=
  ∑ d : Fin 64, x1 (ix3 0 (Fin.ofNat 4096 j) (lane a d)) * x0 (ix3 0 r (lane a d)) - x3 (ix4 0 0 (Fin.ofNat 4096 j) a)

/-- Value of key position `j` in lane `d` of head `a` of the pair. -/
def value (x2 : Vec Ideal S1x16x128x256 .bf16) (a : Fin 2) (d : Fin 64) (j : ℕ) : EReal :=
  x2 (ix4 0 (Fin.ofNat 16 (j / 256)) (lane a d) (Fin.ofNat 256 j))

/-- The queries with the second head's lanes zeroed give the first head's product. -/
theorem lanes_first (f : Fin 128 → EReal) :
    ∑ l : Fin 128, Scalar.select (IntOp.cmpi .slt (BitVec.ofNat 32 l) 64#32) (f l) 0 = ∑ d : Fin 64, f (lane 0 d) := by
  rw [Fin.sum_univ_two_halves 64 64 rfl]
  conv_lhs =>
    rw [show ∀ x y : EReal, x + y = y + x from add_comm]
  rw [Finset.sum_eq_zero, zero_add]
  · refine Finset.sum_congr rfl fun d _ => ?_
    have e : (⟨d.val, by omega⟩ : Fin 128) = lane 0 d := Fin.ext (by simp [lane])
    rw [e, slt_64, if_pos (by simp [lane])]; rfl
  · intro d _
    rw [slt_64, if_neg (by simp)]
    rfl

/-- The queries with the first head's lanes zeroed give the second head's product. -/
theorem lanes_second (f : Fin 128 → EReal) :
    ∑ l : Fin 128, Scalar.select (IntOp.cmpi .sge (BitVec.ofNat 32 l) 64#32) (f l) 0 = ∑ d : Fin 64, f (lane 1 d) := by
  rw [Fin.sum_univ_two_halves 64 64 rfl, Finset.sum_eq_zero, zero_add]
  · refine Finset.sum_congr rfl fun d _ => ?_
    have e : (⟨64 + d.val, by omega⟩ : Fin 128) = lane 1 d := Fin.ext (by simp [lane])
    rw [e, sge_64, if_neg (by simp [lane])]; rfl
  · intro d _
    rw [sge_64, if_pos d.isLt]
    rfl

section tile

variable {x0 : Vec Ideal S1x256x128 .bf16} {x1 : Vec Ideal S1x4096x128 .bf16} {x2 : Vec Ideal S1x16x128x256 .bf16}
  {x3 : Vec Ideal S1x1x4096x2 .f32} {n : ℕ} {kt : Vec Ideal S1x256x128 .bf16} {f0 f1 : Vec Ideal S1x1x256x1 .f32}
  {w0 w1 : Vec Ideal S1x1x64x256 .bf16}

/-- The tile of keys, forgets and values that starts at key position `n`. -/
structure TileAt (x1 : Vec Ideal S1x4096x128 .bf16) (x2 : Vec Ideal S1x16x128x256 .bf16)
    (x3 : Vec Ideal S1x1x4096x2 .f32) (n : ℕ) (kt : Vec Ideal S1x256x128 .bf16) (f0 f1 : Vec Ideal S1x1x256x1 .f32)
    (w0 w1 : Vec Ideal S1x1x64x256 .bf16) : Prop where
  key : ∀ (c : Fin 256) (l : Fin 128), kt (ix3 0 c l) = x1 (ix3 0 (Fin.ofNat 4096 (n + c)) l)
  forget0 : ∀ c : Fin 256, f0 (ix4 0 0 c 0) = x3 (ix4 0 0 (Fin.ofNat 4096 (n + c)) 0)
  forget1 : ∀ c : Fin 256, f1 (ix4 0 0 c 0) = x3 (ix4 0 0 (Fin.ofNat 4096 (n + c)) 1)
  value0 : ∀ (d : Fin 64) (c : Fin 256), w0 (ix4 0 0 d c) = value x2 0 d (n + c)
  value1 : ∀ (d : Fin 64) (c : Fin 256), w1 (ix4 0 0 d c) = value x2 1 d (n + c)

variable (ht : TileAt x1 x2 x3 n kt f0 f1 w0 w1)
include ht

theorem score_first (c r : Fin 256) : k0_pay3 (k0_pay22 x0) kt f0 (ix2 c r) = score x0 x1 x3 0 r (n + c) := by
  pointwise [k0_pay3, k0_pay2, k0_pay22, k0_pay21, k0_pay20]
  simp only [ht.key, ht.forget0]
  rw [lanes_first fun l => x1 (ix3 0 (Fin.ofNat 4096 (n + c)) l) * x0 (ix3 0 r l)]
  rfl

theorem score_second (c r : Fin 256) :
    k0_pay30 (k0_pay9 (k0_pay23 x0) kt) (k0_pay10 f1) (ix2 c r) = score x0 x1 x3 1 r (n + c) := by
  pointwise [k0_pay30, k0_pay9, k0_pay10, k0_pay2, k0_pay23, k0_pay21, k0_pay20]
  simp only [ht.key, ht.forget1]
  rw [lanes_second fun l => x1 (ix3 0 (Fin.ofNat 4096 (n + c)) l) * x0 (ix3 0 r l)]
  rfl

/-- The diagonal tile of the first head: masked above the diagonal. -/
theorem diag_first (c r : Fin 256) :
    k0_pay44 (k0_pay43 x0 kt) f0 (ix2 c r) = if (c : ℕ) ≤ r then score x0 x1 x3 0 r (n + c) else ⊥ := by
  rw [← score_first ht]
  pointwise [k0_pay44, k0_pay43, k0_pay42, k0_pay3, k0_pay2]
  rw [sle_small (by have := c.isLt; omega) (by have := r.isLt; omega), neg_inf]
  split <;> rfl

/-- The diagonal tile of the second head. -/
theorem diag_second (c r : Fin 256) :
    k0_pay50 (k0_pay23 x0) (k0_pay42 kt) f1 (ix2 c r) = if (c : ℕ) ≤ r then score x0 x1 x3 1 r (n + c) else ⊥ := by
  rw [← score_second ht]
  pointwise [k0_pay50, k0_pay42, k0_pay30, k0_pay9, k0_pay10, k0_pay2]
  rw [sle_small (by have := c.isLt; omega) (by have := r.isLt; omega), neg_inf]
  split <;> rfl

/-- One tile of the loop, first head. -/
theorem step_first {a : Carry Ideal}
    (h : Holds (score x0 x1 x3 0) (value x2 0) n (fun r => a.1 (ix2 0 r)) (fun r => a.2.1 (ix2 0 r))
      fun d r => a.2.2.1 (ix2 d r)) :
    Holds (score x0 x1 x3 0) (value x2 0) (n + 256) (fun r => (stepOf x0 kt f0 f1 w0 w1 a).1 (ix2 0 r))
      (fun r => (stepOf x0 kt f0 f1 w0 w1 a).2.1 (ix2 0 r)) fun d r => (stepOf x0 kt f0 f1 w0 w1 a).2.2.1 (ix2 d r) := by
  refine h.step _ (score_first ht) (fun d c => w0 (ix4 0 0 d c)) ht.value0 (fun r => ?_) (fun r => ?_) fun d r => ?_
  · show k0_pay4 (k0_pay22 x0) a.1 kt f0 (ix2 0 r) = _
    pointwise [k0_pay4]
    rw [neg_inf]
  · show k0_pay7 (k0_pay22 x0) a.1 a.2.1 kt f0 (ix2 0 r) = _
    pointwise [k0_pay7, k0_pay5, k0_pay6]
    rfl
  · show k0_pay8 (k0_pay22 x0) a.1 a.2.2.1 kt f0 w0 (ix2 d r) = _
    pointwise [k0_pay8, k0_pay5, k0_pay6]
    rfl

/-- One tile of the loop, second head. -/
theorem step_second {a : Carry Ideal}
    (h : Holds (score x0 x1 x3 1) (value x2 1) n (fun r => a.2.2.2.1 (ix2 0 r)) (fun r => a.2.2.2.2.1 (ix2 0 r))
      fun d r => a.2.2.2.2.2 (ix2 d r)) :
    Holds (score x0 x1 x3 1) (value x2 1) (n + 256) (fun r => (stepOf x0 kt f0 f1 w0 w1 a).2.2.2.1 (ix2 0 r))
      (fun r => (stepOf x0 kt f0 f1 w0 w1 a).2.2.2.2.1 (ix2 0 r))
      fun d r => (stepOf x0 kt f0 f1 w0 w1 a).2.2.2.2.2 (ix2 d r) := by
  refine h.step _ (score_second ht) (fun d c => w1 (ix4 0 0 d c)) ht.value1 (fun r => ?_) (fun r => ?_) fun d r => ?_
  · show k0_pay31 a.2.2.2.1 (k0_pay9 (k0_pay23 x0) kt) (k0_pay10 f1) (ix2 0 r) = _
    pointwise [k0_pay31]
    rw [neg_inf]
  · show k0_pay34 a.2.2.2.1 a.2.2.2.2.1 (k0_pay9 (k0_pay23 x0) kt) (k0_pay10 f1) (ix2 0 r) = _
    pointwise [k0_pay34, k0_pay32, k0_pay33]
    rfl
  · show k0_pay35 a.2.2.2.1 a.2.2.2.2.2 (k0_pay9 (k0_pay23 x0) kt) (k0_pay10 f1) w1 (ix2 d r) = _
    pointwise [k0_pay35, k0_pay32, k0_pay33]
    rfl

end tile

end Cert.KernelIdeal.Attn

end
-- ==== Proof.BlockValue.lean ====
/-
  The output block of one grid point of the attention kernel as a quotient of sums over all key positions.

  The loop's tiles and the diagonal tile are the stretches of 256 keys that start at `256 * k` (`tileAt`); so the carries
  after the loop are peak, mass and blend over the keys before the diagonal tile (`carry_first`, `carry_second`), and
  the block's elements are blend over mass of the causal row over all 4096 keys, times the gate (`block_at`).
-/
module

public import proofs.«01_k».proof.Proof.Tile

@[expose] public section

set_option maxRecDepth 16384

noncomputable section

namespace Cert.KernelIdeal.Attn

open Cert.KernelIdeal Cert.KernelIdeal.Gen Cert.Softmax Cert.Numbers
open Idealize.ShloMosaic Idealize.ShloMosaic.TcCoe

/-! ## Where the tiles start -/

theorem start_rows : ∀ k : Fin 16,
    (Scalar.indexCast (Scalar.muli (Scf.iv 0#32 1#32 k.val) 256#32)).toNat = 256 * k.val := by decide +kernel
theorem start_tile : ∀ k : Fin 16, (Scalar.indexCast (Scf.iv 0#32 1#32 k.val)).toNat = k.val := by decide +kernel
theorem start_rows_diag : ∀ k : Fin 16,
    (Scalar.indexCast (Scalar.muli (BitVec.ofNat 32 k.val) 256#32)).toNat = 256 * k.val := by decide +kernel
theorem start_tile_diag : ∀ k : Fin 16, (Scalar.indexCast (BitVec.ofNat 32 k.val)).toNat = k.val := by decide +kernel

section loop

variable (i : grid0.Coords) (k : Fin (k0_t1_loop i).trips)

theorem trip_lt : k.val < 16 := lt_of_lt_of_le k.isLt ((trips1 i).trans_le (i 2).isLt.le)

theorem off1_eq : k0_off1 i k = ![0, 256 * k.val, 0] := by
  unfold k0_off1; dsimp only; rw [start_rows ⟨k.val, trip_lt i k⟩]
theorem off2_eq : k0_off2 i k = ![0, 0, 256 * k.val, 0] := by
  unfold k0_off2; dsimp only; rw [start_rows ⟨k.val, trip_lt i k⟩]
theorem off3_eq : k0_off3 i k = ![0, k.val, 0, 0] := by
  unfold k0_off3; dsimp only; rw [start_tile ⟨k.val, trip_lt i k⟩]
theorem off4_eq : k0_off4 i k = ![0, 0, 256 * k.val, 1] := by
  unfold k0_off4; dsimp only; rw [start_rows ⟨k.val, trip_lt i k⟩]
theorem off5_eq : k0_off5 i k = ![0, k.val, 64, 0] := by
  unfold k0_off5; dsimp only; rw [start_tile ⟨k.val, trip_lt i k⟩]

theorem off11_eq : k0_off11 i = ![0, 256 * (i 2).val, 0] := by
  unfold k0_off11; dsimp only; rw [start_rows_diag (i 2)]
theorem off12_eq : k0_off12 i = ![0, 0, 256 * (i 2).val, 0] := by
  unfold k0_off12; dsimp only; rw [start_rows_diag (i 2)]
theorem off13_eq : k0_off13 i = ![0, (i 2).val, 0, 0] := by
  unfold k0_off13; dsimp only; rw [start_tile_diag (i 2)]
theorem off14_eq : k0_off14 i = ![0, 0, 256 * (i 2).val, 1] := by
  unfold k0_off14; dsimp only; rw [start_rows_diag (i 2)]
theorem off15_eq : k0_off15 i = ![0, (i 2).val, 64, 0] := by
  unfold k0_off15; dsimp only; rw [start_tile_diag (i 2)]

end loop

/-- The loads at tile `p` read keys, forgets and values from position `256 * p` on. -/
theorem tileAt (x1 : Vec Ideal S1x4096x128 .bf16) (x2 : Vec Ideal S1x16x128x256 .bf16)
    (x3 : Vec Ideal S1x1x4096x2 .f32) {p : ℕ} (hp : p < 16) {o1 : Fin 3 → ℕ} {o2 o3 o4 o5 : Fin 4 → ℕ}
    (e1 : o1 = ![0, 256 * p, 0]) (e2 : o2 = ![0, 0, 256 * p, 0]) (e3 : o3 = ![0, p, 0, 0])
    (e4 : o4 = ![0, 0, 256 * p, 1]) (e5 : o5 = ![0, p, 64, 0])
    (h1 : ∀ a, o1 a + S1x256x128.size a ≤ S1x4096x128.size a) (h2 : ∀ a, o2 a + S1x1x256x1.size a ≤ S1x1x4096x2.size a)
    (h3 : ∀ a, o3 a + S1x1x64x256.size a ≤ S1x16x128x256.size a)
    (h4 : ∀ a, o4 a + S1x1x256x1.size a ≤ S1x1x4096x2.size a)
    (h5 : ∀ a, o5 a + S1x1x64x256.size a ≤ S1x16x128x256.size a) :
    TileAt x1 x2 x3 (256 * p) (View.ld x1 (Rect.unit o1 S1x256x128.size h1))
      (View.ld x3 (Rect.unit o2 S1x1x256x1.size h2)) (View.ld x3 (Rect.unit o4 S1x1x256x1.size h4))
      (View.ld x2 (Rect.unit o3 S1x1x64x256.size h3)) (View.ld x2 (Rect.unit o5 S1x1x64x256.size h5)) := by
  subst e1 e2 e3 e4 e5
  have row : ∀ (c : Fin 256) (h : 256 * p + c.val < 4096),
      (⟨256 * p + c.val, h⟩ : Fin 4096) = Fin.ofNat 4096 (256 * p + c.val) := fun c h =>
    Fin.ext (Nat.mod_eq_of_lt h).symm
  have tile : ∀ c : Fin 256, (⟨p, hp⟩ : Fin 16) = Fin.ofNat 16 ((256 * p + c.val) / 256) := fun c =>
    Fin.ext (by show p = (256 * p + c.val) / 256 % 16; have := c.isLt; omega)
  have within : ∀ c : Fin 256, c = Fin.ofNat 256 (256 * p + c.val) := fun c =>
    Fin.ext (by show c.val = (256 * p + c.val) % 256; have := c.isLt; omega)
  refine ⟨fun c l => ?_, fun c => ?_, fun c => ?_, fun d c => ?_, fun d c => ?_⟩
  · pointwise
    rw [row]
  · pointwise
    rw [row]
  · pointwise
    rw [row]
  · unfold value
    rw [← tile c, ← within c]
    pointwise
    congr 2; exact Fin.ext (by simp [lane])
  · unfold value
    rw [← tile c, ← within c]
    pointwise
    congr 2

/-! ## The carries of the loop -/

section point

variable (i : grid0.Coords) (x0 : Vec Ideal S1x256x128 .bf16) (x1 : Vec Ideal S1x4096x128 .bf16)
  (x2 : Vec Ideal S1x16x128x256 .bf16) (x3 : Vec Ideal S1x1x4096x2 .f32) (x4 : Vec Ideal S1x256x128 .f32)

theorem carry_first : ∀ k, k ≤ (k0_t1_loop i).trips →
    Holds (score x0 x1 x3 0) (value x2 0) (256 * k) (fun r => (carry i x0 x1 x2 x3 k).1 (ix2 0 r))
      (fun r => (carry i x0 x1 x2 x3 k).2.1 (ix2 0 r)) fun d r => (carry i x0 x1 x2 x3 k).2.2.1 (ix2 d r)
  | 0, _ => by
    refine ⟨fun r => ?_, fun r => ?_, fun d r => ?_⟩
    · show k0_pay24 (ix2 0 r) = _
      pointwise [k0_pay24]; rw [neg_inf]; rfl
    · show k0_pay25 (ix2 0 r) = _
      pointwise [k0_pay25]; rfl
    · show k0_pay26 (ix2 d r) = _
      pointwise [k0_pay26]; rfl
  | k + 1, hk => by
    rw [carry_succ i x0 x1 x2 x3 k hk]
    exact step_first (tileAt x1 x2 x3 (trip_lt i ⟨k, hk⟩) (off1_eq i ⟨k, hk⟩) (off2_eq i ⟨k, hk⟩) (off3_eq i ⟨k, hk⟩)
      (off4_eq i ⟨k, hk⟩) (off5_eq i ⟨k, hk⟩) _ _ _ _ _) (carry_first k (Nat.le_of_succ_le hk))

theorem carry_second : ∀ k, k ≤ (k0_t1_loop i).trips →
    Holds (score x0 x1 x3 1) (value x2 1) (256 * k) (fun r => (carry i x0 x1 x2 x3 k).2.2.2.1 (ix2 0 r))
      (fun r => (carry i x0 x1 x2 x3 k).2.2.2.2.1 (ix2 0 r)) fun d r => (carry i x0 x1 x2 x3 k).2.2.2.2.2 (ix2 d r)
  | 0, _ => by
    refine ⟨fun r => ?_, fun r => ?_, fun d r => ?_⟩
    · show k0_pay27 (ix2 0 r) = _
      pointwise [k0_pay27]; rw [neg_inf]; rfl
    · show k0_pay28 (ix2 0 r) = _
      pointwise [k0_pay28]; rfl
    · show k0_pay29 (ix2 d r) = _
      pointwise [k0_pay29]; rfl
  | k + 1, hk => by
    rw [carry_succ i x0 x1 x2 x3 k hk]
    exact step_second (tileAt x1 x2 x3 (trip_lt i ⟨k, hk⟩) (off1_eq i ⟨k, hk⟩) (off2_eq i ⟨k, hk⟩) (off3_eq i ⟨k, hk⟩)
      (off4_eq i ⟨k, hk⟩) (off5_eq i ⟨k, hk⟩) _ _ _ _ _) (carry_second k (Nat.le_of_succ_le hk))

/-- The causal rows of a block that starts at query position `n`. -/
abbrev rows (n : ℕ) (s : Fin 256 → ℕ → EReal) (r : Fin 256) : ℕ → EReal := causal (n + r) (s r)

/-- Before the block's first query position nothing is masked. -/
theorem rows_eq (n : ℕ) (s : Fin 256 → ℕ → EReal) (r : Fin 256) (j : ℕ) (h : j < n) : s r j = rows n s r j :=
  (if_pos (by omega)).symm

/-- The masked diagonal tile's scores are the causal row's. -/
theorem rows_diag (n : ℕ) (s : Fin 256 → ℕ → EReal) (c r : Fin 256) :
    (if (c : ℕ) ≤ r then s r (n + c) else ⊥) = rows n s r (n + c) := by
  show _ = if n + c.val ≤ n + r.val then _ else _
  simp only [Nat.add_le_add_iff_left]

/-- Blend over mass through the diagonal tile is blend over mass through all keys. -/
theorem quotient_all {n : ℕ} (hn : n + 256 ≤ 4096) (s : Fin 256 → ℕ → EReal) (v : ℕ → EReal) (r : Fin 256) :
    Ideal.div (blend (rows n s r) v (n + 256)) (mass (rows n s r) (n + 256))
      = Ideal.div (blend (rows n s r) v 4096) (mass (rows n s r) 4096) := by
  have h : ∀ j, n + 256 ≤ j → rows n s r j = ⊥ := fun j hj => if_neg (by have := r.isLt; omega)
  rw [blend_of_bot _ _ hn h, mass_of_bot _ hn h]

/-- The output block, with the tile at `n` as its diagonal tile. -/
theorem finish_at {n : ℕ} {kt : Vec Ideal S1x256x128 .bf16} {f0 f1 : Vec Ideal S1x1x256x1 .f32}
    {w0 w1 : Vec Ideal S1x1x64x256 .bf16} (hn : n + 256 ≤ 4096) (ht : TileAt x1 x2 x3 n kt f0 f1 w0 w1)
    {a : Carry Ideal}
    (h0 : Holds (score x0 x1 x3 0) (value x2 0) n (fun r => a.1 (ix2 0 r)) (fun r => a.2.1 (ix2 0 r))
      fun d r => a.2.2.1 (ix2 d r))
    (h1 : Holds (score x0 x1 x3 1) (value x2 1) n (fun r => a.2.2.2.1 (ix2 0 r)) (fun r => a.2.2.2.2.1 (ix2 0 r))
      fun d r => a.2.2.2.2.2 (ix2 d r)) (e : Fin 2) (d : Fin 64) (r : Fin 256) :
    finish x0 kt f0 f1 w0 w1 x4 a (ix3 0 r (lane e d))
      = Ideal.div (blend (rows n (score x0 x1 x3 e) r) (value x2 e d) 4096)
          (mass (rows n (score x0 x1 x3 e) r) 4096) * x4 (ix3 0 r (lane e d)) := by
  have g0 : Holds (rows n (score x0 x1 x3 0)) (value x2 0) (n + 256)
      (fun r => k0_pay45 a.1 (k0_pay43 x0 kt) f0 (ix2 0 r)) (fun r => k0_pay48 a.1 a.2.1 (k0_pay43 x0 kt) f0 (ix2 0 r))
      fun d r => k0_pay49 a.1 a.2.2.1 (k0_pay43 x0 kt) f0 w0 (ix2 d r) := by
    refine (h0.congr (rows_eq n _)).step _ (fun c r => (diag_first ht c r).trans (rows_diag n _ c r))
      (fun d c => w0 (ix4 0 0 d c)) ht.value0 (fun r => ?_) (fun r => ?_) fun d r => ?_
    · pointwise [k0_pay45]; rw [neg_inf]
    · pointwise [k0_pay48, k0_pay46, k0_pay47]; rfl
    · pointwise [k0_pay49, k0_pay46, k0_pay47]; rfl
  have g1 : Holds (rows n (score x0 x1 x3 1)) (value x2 1) (n + 256)
      (fun r => k0_pay51 (k0_pay23 x0) a.2.2.2.1 (k0_pay42 kt) f1 (ix2 0 r))
      (fun r => Ideal.exp2 (a.2.2.2.1 (ix2 0 r) - k0_pay51 (k0_pay23 x0) a.2.2.2.1 (k0_pay42 kt) f1 (ix2 0 r))
          * a.2.2.2.2.1 (ix2 0 r)
        + ∑ c : Fin 256, Ideal.exp2 (k0_pay50 (k0_pay23 x0) (k0_pay42 kt) f1 (ix2 c r)
          - k0_pay51 (k0_pay23 x0) a.2.2.2.1 (k0_pay42 kt) f1 (ix2 0 r)))
      fun d r => Ideal.exp2 (a.2.2.2.1 (ix2 0 r) - k0_pay51 (k0_pay23 x0) a.2.2.2.1 (k0_pay42 kt) f1 (ix2 0 r))
          * a.2.2.2.2.2 (ix2 d r)
        + ∑ c : Fin 256, w1 (ix4 0 0 d c) * Ideal.exp2 (k0_pay50 (k0_pay23 x0) (k0_pay42 kt) f1 (ix2 c r)
          - k0_pay51 (k0_pay23 x0) a.2.2.2.1 (k0_pay42 kt) f1 (ix2 0 r)) := by
    refine (h1.congr (rows_eq n _)).step _ (fun c r => (diag_second ht c r).trans (rows_diag n _ c r))
      (fun d c => w1 (ix4 0 0 d c)) ht.value1 (fun r => ?_) (fun r => rfl) fun d r => rfl
    pointwise [k0_pay51]; rw [neg_inf]
  rw [← quotient_all hn]
  unfold finish
  match e with
  | 0 =>
    rw [← g0.blend, ← g0.mass]
    pointwise [k0_pay1]
    rw [dif_pos (show (lane 0 d).val < 64 by simp [lane])]
    congr 5 <;> simp [lane]
  | 1 =>
    rw [← g1.blend, ← g1.mass]
    pointwise [k0_pay1, k0_pay52]
    rw [dif_neg (show ¬(lane 1 d).val < 64 by simp [lane])]
    have hl : ∀ h : (lane 1 d).val - 64 < 64, (⟨(lane 1 d).val - 64, h⟩ : Fin 64) = d := fun h => Fin.ext (by simp [lane])
    simp only [hl]
    rfl

/-- The elements of a point's output block: blend over mass of the causal row over all keys, times the gate. -/
theorem block_at (c : Dev nD) (arg3 : Memref sig .tc .vmem S1x256x128 .bf16) (harg3 : arg3.IsWhole) (arg4 : Memref sig .tc .vmem S1x4096x128 .bf16) (harg4 : arg4.IsWhole) (arg5 : Memref sig .tc .vmem S1x16x128x256 .bf16) (harg5 : arg5.IsWhole) (arg6 : Memref sig .tc .vmem S1x1x4096x2 .f32) (harg6 : arg6.IsWhole) (arg7 : Memref sig .tc .vmem S1x256x128 .f32) (harg7 : arg7.IsWhole) (arg8 : Memref sig .tc .vmem S1x256x128 .bf16) (harg8 : arg8.IsWhole)
    (e : Fin 2) (d : Fin 64) (r : Fin 256) :
    out0_A_5 c i arg3 harg3 arg4 harg4 arg5 harg5 arg6 harg6 arg7 harg7 arg8 harg8 x0 x1 x2 x3 x4 (ix3 0 r (lane e d))
      = Ideal.div (blend (causal (256 * (i 2).val + r) (score x0 x1 x3 e r)) (value x2 e d) 4096)
          (mass (causal (256 * (i 2).val + r) (score x0 x1 x3 e r)) 4096) * x4 (ix3 0 r (lane e d)) := by
  have hq : (i 2).val < 16 := (i 2).isLt
  rw [block_eq]
  have h0 := carry_first i x0 x1 x2 x3 _ le_rfl
  have h1 := carry_second i x0 x1 x2 x3 _ le_rfl
  rw [trips1] at h0 h1 ⊢
  exact finish_at x0 x1 x2 x3 x4 (by omega)
    (tileAt x1 x2 x3 hq (off11_eq i) (off12_eq i) (off13_eq i) (off14_eq i) (off15_eq i) _ _ _ _ _) h0 h1 e d r

end point

end Cert.KernelIdeal.Attn

end
-- ==== Proof.Final.lean ====
/-
  The attention kernel's result array: every grid point writes its own block of `Attend.attend`, and the blocks tile the
  array.
-/
module

public import proofs.«01_k».proof.Proof.Attend
public import proofs.«01_k».proof.Proof.BlockValue
public import proofs.«01_k».proof.Proof.Gen.KernelIdeal.Value
public import Idealize.ShloMosaic.Lib.Pipeline.ValueKit

@[expose] public section

set_option maxRecDepth 16384

noncomputable section

namespace Cert.KernelIdeal.Attn

open Cert.KernelIdeal Cert.KernelIdeal.Gen Cert.Softmax Cert.Attend
open Idealize.ShloMosaic Idealize.ShloMosaic.TcCoe

/-! ## Which block each window reads at a grid point (batch, pair of heads, 256 queries) -/

theorem index0 : ∀ t : Fin cfg0.N, win0_0.index t = ![(grid0.coords t 0).val, (grid0.coords t 2).val, (grid0.coords t 1).val] :=
  (by decide +kernel : ∀ t : Fin grid0.N, _)
theorem index1 : ∀ t : Fin cfg0.N, win0_1.index t = ![(grid0.coords t 0).val, 0, (grid0.coords t 1).val] :=
  (by decide +kernel : ∀ t : Fin grid0.N, _)
theorem index2 : ∀ t : Fin cfg0.N, win0_2.index t = ![(grid0.coords t 0).val, 0, (grid0.coords t 1).val, 0] :=
  (by decide +kernel : ∀ t : Fin grid0.N, _)
theorem index3 : ∀ t : Fin cfg0.N, win0_3.index t = ![(grid0.coords t 0).val, (grid0.coords t 1).val, 0, 0] :=
  (by decide +kernel : ∀ t : Fin grid0.N, _)
theorem index4 : ∀ t : Fin cfg0.N, win0_4.index t = ![(grid0.coords t 0).val, (grid0.coords t 2).val, (grid0.coords t 1).val] :=
  (by decide +kernel : ∀ t : Fin grid0.N, _)
theorem index5 : ∀ t : Fin cfg0.N, win0_5.index t = ![(grid0.coords t 0).val, (grid0.coords t 2).val, (grid0.coords t 1).val] :=
  (by decide +kernel : ∀ t : Fin grid0.N, _)

variable (m : (ℓ : Loc nD τ sig) → Buf (Elt Ideal) ℓ) (c : Dev nD) (t : Fin cfg0.N)

/-- The batch, the first query row and the head of a point's block. -/
def batch : Fin 4 := grid0.coords t 0
def row (r : Fin 256) : Fin 4096 := ⟨256 * (grid0.coords t 2).val + r, by have : (grid0.coords t 2).val < 16 := (grid0.coords t 2).isLt; omega⟩
def head (e : Fin 2) : Fin 8 := ⟨2 * (grid0.coords t 1).val + e, by have : (grid0.coords t 1).val < 4 := (grid0.coords t 1).isLt; omega⟩

/-- The queries' block, -/
theorem read0 (r : Fin 256) (e : Fin 2) (d : Fin 64) :
    (iblk m c 0 t : FVec Ideal S1x256x128 .bf16) (ix3 0 r (lane e d))
      = m ((c : Thread nD τ).loc main_arg0) (ix3 (batch t) (row t r) (col (head t e) d)) := by
  blk_ext! [iblk, V_main_arg0, index0 t, batch, row, head, col, lane]

/-- the keys', -/
theorem read1 (j : Fin 4096) (e : Fin 2) (d : Fin 64) :
    (iblk m c 1 t : FVec Ideal S1x4096x128 .bf16) (ix3 0 j (lane e d))
      = m ((c : Thread nD τ).loc main_arg1) (ix3 (batch t) j (col (head t e) d)) := by
  blk_ext! [iblk, V_main_arg1, index1 t, batch, row, head, col, lane]

/-- the values', -/
theorem read2 (p : Fin 16) (e : Fin 2) (d : Fin 64) (j : Fin 256) :
    (iblk m c 2 t : FVec Ideal S1x16x128x256 .bf16) (ix4 0 p (lane e d) j)
      = m ((c : Thread nD τ).loc main_arg2) (ix4 (batch t) p (col (head t e) d) j) := by
  blk_ext! [iblk, V_main_arg2, index2 t, batch, row, head, col, lane]

/-- the log-forgets', which the host reshapes and transposes first, -/
theorem read3 (j : Fin 4096) (e : Fin 2) :
    (iblk m c 3 t : FVec Ideal S1x1x4096x2 .f32) (ix4 0 0 j e)
      = m ((c : Thread nD τ).loc main_arg3) (ix3 (batch t) (head t e) j) := by
  blk_ext! [iblk, V, index3 t, batch, row, head, col, lane]

/-- and the gate's. -/
theorem read4 (r : Fin 256) (e : Fin 2) (d : Fin 64) :
    (iblk m c 4 t : FVec Ideal S1x256x128 .f32) (ix3 0 r (lane e d))
      = m ((c : Thread nD τ).loc main_arg4) (ix3 (batch t) (row t r) (col (head t e) d)) := by
  blk_ext! [iblk, V_main_arg4, index4 t, batch, row, head, col, lane]

/-- Every lane of a block is a number of one of its two heads. -/
theorem exists_lane (l : Fin 128) : ∃ e d, l = lane e d :=
  ⟨⟨l / 64, by omega⟩, ⟨l % 64, by omega⟩, Fin.ext (Nat.div_add_mod l.val 64).symm⟩

/-- The result array's contents. -/
abbrev result : FVec Ideal S4x4096x512 .bf16 :=
  attend (m ((c : Thread nD τ).loc main_arg0)) (m ((c : Thread nD τ).loc main_arg1))
    (m ((c : Thread nD τ).loc main_arg2)) (m ((c : Thread nD τ).loc main_arg3)) (m ((c : Thread nD τ).loc main_arg4))

/-- What a grid point leaves in its output block is that block of the result. -/
theorem point (e : Fin 2) (d : Fin 64) (r : Fin 256) :
    outsAt0 m c t (ix3 0 r (lane e d)) = result m c (ix3 (batch t) (row t r) (col (head t e) d)) := by
  refine (block_at _ _ _ _ _ _ _ _ _ _ _ _ _ _ _ _ _ _ _ e d r).trans ?_
  rw [result, attend_col, element]
  have hs : score (iblk m c 0 t) (iblk m c 1 t) (iblk m c 3 t) e r
      = rowScore (m ((c : Thread nD τ).loc main_arg0)) (m ((c : Thread nD τ).loc main_arg1))
          (m ((c : Thread nD τ).loc main_arg3)) (batch t) (head t e) (row t r) := by
    funext j
    simp only [score, rowScore, read0, read1, read3]
  have hv : value (iblk m c 2 t) e d
      = rowValue (m ((c : Thread nD τ).loc main_arg2)) (batch t) (head t e) d := by
    funext j
    simp only [value, rowValue, read2]
  rw [hs, hv, read4]
  rfl

/-- The kernel's result array. -/
theorem final : (dats m 0 c).arrAt 5 cfg0.N = result m c := by
  refine (dats m 0 c).arrAt_eq_of_covers 5 _ (by decide +kernel) fun t hf y => ?_
  blk_simp
  rw [after0_5]
  idx_vars y
  obtain ⟨e, d, rfl⟩ := exists_lane y2
  obtain rfl : y0 = 0 := Fin.ext (by omega)
  rw [point m c t e d y1]
  refine congrArg (result m c) ?_
  blk_ext [index5 t, batch, row, head, col, lane]

end Cert.KernelIdeal.Attn

end
-- ==== Proof.InSpec.lean ====
/-
  The projection into the layer's mixers as a function of its argument arrays: what both programs of the second pair
  are shown to compute. All of it for the first layer.

  A position's 1024 numbers are normalised, scaled and shifted (`hidden`), and multiplied with 4104 columns of weights
  (`column`). The columns are, 512 each, the queries, keys, values and the attention's gate, then 8 log-forgets' inputs,
  then the three inputs of the convolution and its gate.
-/
module

public import Idealize.ShloMosaic.Lib.Pointwise

@[expose] public section

noncomputable section

namespace Cert.In

open Idealize.ShloMosaic

abbrev eps : EReal := Ideal.ofBits .f32 0x358637BD#32
/-- The factor log2(e) / 8 on the queries. -/
abbrev fold : EReal := Ideal.ofBits .f32 0x3E38AA3B#32

/-- The batch's modulation, the first 4 of 40. -/
def slot (b : Fin 4) : Fin 40 := ⟨b, by omega⟩
/-- Shift and scale, the first and second 1024 numbers of the modulation. -/
def shiftAt (d : Fin 1024) : Fin 3072 := ⟨d, by omega⟩
def scaleAt (d : Fin 1024) : Fin 3072 := ⟨1024 + d, by omega⟩

/-- The column of number `d` of head `h`. -/
def col (h : Fin 8) (d : Fin 64) : Fin 512 := ⟨64 * h + d, by omega⟩
def headOf (l : Fin 512) : Fin 8 := ⟨l / 64, by omega⟩
def numOf (l : Fin 512) : Fin 64 := ⟨l % 64, by omega⟩
theorem col_of (l : Fin 512) : l = col (headOf l) (numOf l) := Fin.ext (Nat.div_add_mod l.val 64).symm

/-- Position `s` of piece `j` of 256 positions, and the last two positions. -/
def inPiece (j : Fin 16) (s : Fin 256) : Fin 4096 := ⟨256 * j + s, by omega⟩
def lastTwo (a : Fin 2) : Fin 4096 := ⟨4094 + a, by omega⟩

/-- The eight groups of 512 columns, and the 8 columns of the log-forgets. -/
def qCol (l : Fin 512) : Fin 4104 := ⟨l, by omega⟩
def kCol (l : Fin 512) : Fin 4104 := ⟨512 + l, by omega⟩
def vCol (l : Fin 512) : Fin 4104 := ⟨1024 + l, by omega⟩
def gCol (l : Fin 512) : Fin 4104 := ⟨1536 + l, by omega⟩
def fCol (h : Fin 8) : Fin 4104 := ⟨2048 + h, by omega⟩
def bCol (l : Fin 512) : Fin 4104 := ⟨2056 + l, by omega⟩
def cCol (l : Fin 512) : Fin 4104 := ⟨2568 + l, by omega⟩
def uCol (l : Fin 512) : Fin 4104 := ⟨3080 + l, by omega⟩
def zCol (l : Fin 512) : Fin 4104 := ⟨3592 + l, by omega⟩

/-- `z` times its logistic function. -/
def silu (z : EReal) : EReal := z * Ideal.div 1 (1 + Ideal.exp (0 - z))

/-- The logarithm of the logistic function. -/
def logSigmoid (z : EReal) : EReal := min z 0 - Ideal.log (1 + Ideal.exp (0 - max z (-z)))

/-- Number `d` of a head of 64 numbers, divided by their root mean square, times its gain. -/
def headNorm (t : Fin 64 → EReal) (gain : EReal) (d : Fin 64) : EReal :=
  t d * Ideal.rsqrt (Ideal.div (∑ e : Fin 64, t e * t e) (Ideal.ofBits .f32 0x42800000#32) + eps) * gain

section spec

variable (x : FVec Ideal ⟨3, ![4, 4096, 1024]⟩ .f32) (g : FVec Ideal ⟨4, ![4, 40, 1, 3072]⟩ .f32)
  (ng : FVec Ideal ⟨2, ![4, 1024]⟩ .f32) (w : FVec Ideal ⟨3, ![4, 1024, 4104]⟩ .f32) (bf : FVec Ideal ⟨2, ![4, 8]⟩ .f32)
  (gain : FVec Ideal ⟨2, ![4, 64]⟩ .f32) (cw : FVec Ideal ⟨3, ![4, 3, 512]⟩ .f32) (cb : FVec Ideal ⟨2, ![4, 512]⟩ .f32)
  (b : Fin 4) (p : Fin 4096)

/-- A position's normalised and modulated numbers. -/
def hidden (d : Fin 1024) : EReal :=
  x (ix3 b p d) * Ideal.rsqrt (Ideal.div (∑ e : Fin 1024, x (ix3 b p e) * x (ix3 b p e)) (Ideal.ofBits .f32 0x44800000#32) + eps)
    * ng (ix2 0 d) * (1 + g (ix4 0 (slot b) 0 (scaleAt d))) + g (ix4 0 (slot b) 0 (shiftAt d))

/-- Their product with a column of the weights. -/
def column (c : Fin 4104) : EReal := ∑ k : Fin 1024, hidden x g ng b p k * w (ix3 0 k c)

/-- Number `d` of head `h` of the normalised queries or keys, by the group of columns. -/
def normed (group : Fin 512 → Fin 4104) (h : Fin 8) (d : Fin 64) : EReal :=
  headNorm (fun e => column x g ng w b p (group (col h e))) (gain (ix2 0 d)) d

/-- Head `h`'s log-forget. -/
def forget (h : Fin 8) : EReal := logSigmoid (column x g ng w b p (fCol h) + bf (ix2 0 h))

/-- The convolution's input. -/
def gated (l : Fin 512) : EReal := column x g ng w b p (cCol l) * column x g ng w b p (uCol l)

/-- The convolution's input `j` positions before `p`, zero before the start. -/
def before (j : ℕ) (l : Fin 512) : EReal :=
  if j ≤ p.val then gated x g ng w b ⟨p.val - j, by omega⟩ l else 0

/-- The convolution's output under its two gates. -/
def conv (l : Fin 512) : EReal :=
  column x g ng w b p (bCol l)
    * (cb (ix2 0 l) + before x g ng w b p 2 l * cw (ix3 0 0 l) + before x g ng w b p 1 l * cw (ix3 0 1 l)
        + gated x g ng w b p l * cw (ix3 0 2 l))
    * silu (column x g ng w b p (zCol l))

end spec

/-! ## The nine result arrays -/

section arrays

variable (x : FVec Ideal ⟨3, ![4, 4096, 1024]⟩ .f32) (g : FVec Ideal ⟨4, ![4, 40, 1, 3072]⟩ .f32)
  (ng : FVec Ideal ⟨2, ![4, 1024]⟩ .f32) (w : FVec Ideal ⟨3, ![4, 1024, 4104]⟩ .f32) (bf : FVec Ideal ⟨2, ![4, 8]⟩ .f32)
  (qg kg : FVec Ideal ⟨2, ![4, 64]⟩ .f32) (cw : FVec Ideal ⟨3, ![4, 3, 512]⟩ .f32) (cb : FVec Ideal ⟨2, ![4, 512]⟩ .f32)

/-- The queries times log2(e) / 8, -/
def queries : FVec Ideal ⟨3, ![4, 4096, 512]⟩ .bf16 := fun i =>
  normed x g ng w qg (i 0) (i 1) qCol (headOf (i 2)) (numOf (i 2)) * fold
/-- the keys, -/
def keys : FVec Ideal ⟨3, ![4, 4096, 512]⟩ .bf16 := fun i =>
  normed x g ng w kg (i 0) (i 1) kCol (headOf (i 2)) (numOf (i 2))
/-- the values in 16 pieces of 256 positions, transposed, -/
def pieces : FVec Ideal ⟨4, ![4, 16, 512, 256]⟩ .bf16 := fun i =>
  column x g ng w (i 0) (inPiece (i 1) (i 3)) (vCol (i 2))
/-- the keys and the values transposed, -/
def keysT : FVec Ideal ⟨3, ![4, 512, 4096]⟩ .f32 := fun i =>
  normed x g ng w kg (i 0) (i 2) kCol (headOf (i 1)) (numOf (i 1))
def valuesT : FVec Ideal ⟨3, ![4, 512, 4096]⟩ .f32 := fun i => column x g ng w (i 0) (i 2) (vCol (i 1))
/-- the log-forgets transposed, -/
def forgetsT : FVec Ideal ⟨3, ![4, 8, 4096]⟩ .f32 := fun i => forget x g ng w bf (i 0) (i 2) (i 1)
/-- the attention's gate, -/
def gates : FVec Ideal ⟨3, ![4, 4096, 512]⟩ .f32 := fun i => silu (column x g ng w (i 0) (i 1) (gCol (i 2)))
/-- the convolution's output -/
def convs : FVec Ideal ⟨3, ![4, 4096, 512]⟩ .bf16 := fun i => conv x g ng w cw cb (i 0) (i 1) (i 2)
/-- and the convolution's last two inputs. -/
def history : FVec Ideal ⟨3, ![4, 2, 512]⟩ .f32 := fun i =>
  gated x g ng w (i 0) (lastTwo (i 1)) (i 2)

end arrays

end Cert.In

end
-- ==== Proof.InBlock.lean ====
/-
  What a grid point of the input projection computes, at an index, in terms of `In.hidden`, `In.column` and so on, when its
  input blocks are those of batch `b` and of the 512 positions from `512 * i` on.
-/
module

public import proofs.«01_k».proof.Proof.InSpec
public import proofs.«01_k».proof.Proof.Gen.Kernel2Ideal.Skeleton

@[expose] public section

set_option maxRecDepth 16384

noncomputable section

namespace Cert.Kernel2Ideal.Input

open Cert.Kernel2Ideal Cert.Kernel2Ideal.Gen Cert.In
open Idealize.ShloMosaic Idealize.ShloMosaic.TcCoe

/-- Position `r` of tile `i`. -/
def row (i : Fin 8) (r : Fin 512) : Fin 4096 := ⟨512 * i + r, by omega⟩

/-- The column of `w_in` that column `c` of the host's 4096 columns is: the 8 of the log-forgets are left out. -/
def mainCol (c : Fin 4096) : Fin 4104 := if h : c.val < 2048 then ⟨c, by omega⟩ else ⟨c + 8, by omega⟩

/-- The argument arrays. -/
structure Args where
  x : FVec Ideal ⟨3, ![4, 4096, 1024]⟩ .f32
  g : FVec Ideal ⟨4, ![4, 40, 1, 3072]⟩ .f32
  ng : FVec Ideal ⟨2, ![4, 1024]⟩ .f32
  w : FVec Ideal ⟨3, ![4, 1024, 4104]⟩ .f32
  bf : FVec Ideal ⟨2, ![4, 8]⟩ .f32
  qg : FVec Ideal ⟨2, ![4, 64]⟩ .f32
  kg : FVec Ideal ⟨2, ![4, 64]⟩ .f32
  cw : FVec Ideal ⟨3, ![4, 3, 512]⟩ .f32
  cb : FVec Ideal ⟨2, ![4, 512]⟩ .f32

/-- A point's input blocks. -/
structure Blocks where
  x0 : Vec Ideal S1x512x1024 .f32
  x1 : Vec Ideal S1x1x1x3072 .f32
  x2 : Vec Ideal S1x1x1024 .f32
  x3 : Vec Ideal S1x1024x4096 .bf16
  x4 : Vec Ideal S1x1024x128 .bf16
  x5 : Vec Ideal S1x1x128 .f32
  x6 : Vec Ideal S1x1x512 .f32
  x7 : Vec Ideal S1x1x512 .f32
  x8 : Vec Ideal S1x3x512 .f32
  x9 : Vec Ideal S1x1x512 .f32
  x10 : Vec Ideal S256x256 .bf16

/-- One of the first 8 of 128 lanes. -/
def lane (h : Fin 8) : Fin 128 := ⟨h, by omega⟩

/-- The blocks `B` are those of batch `b` and tile `i`. -/
structure Reads (A : Args) (b : Fin 4) (i : Fin 8) (B : Blocks) : Prop where
  r0 : ∀ r d, B.x0 (ix3 0 r d) = A.x (ix3 b (row i r) d)
  r1 : ∀ e, B.x1 (ix4 0 0 0 e) = A.g (ix4 0 (slot b) 0 e)
  r2 : ∀ d, B.x2 (ix3 0 0 d) = A.ng (ix2 0 d)
  r3 : ∀ k c, B.x3 (ix3 0 k c) = A.w (ix3 0 k (mainCol c))
  r4 : ∀ k h, B.x4 (ix3 0 k (lane h)) = A.w (ix3 0 k (fCol h))
  r5 : ∀ h, B.x5 (ix3 0 0 (lane h)) = A.bf (ix2 0 h)
  r6 : ∀ h d, B.x6 (ix3 0 0 (col h d)) = A.qg (ix2 0 d)
  r7 : ∀ h d, B.x7 (ix3 0 0 (col h d)) = A.kg (ix2 0 d)
  r8 : ∀ j l, B.x8 (ix3 0 j l) = A.cw (ix3 0 j l)
  r9 : ∀ l, B.x9 (ix3 0 0 l) = A.cb (ix2 0 l)
  r10 : ∀ u v : Fin 256, B.x10 (ix2 u v) = if u.val / 64 = v.val / 64 then Ideal.ofBits .f32 0x3C800000#32 else 0

/-! ## The point's intermediate arrays -/

section terms

variable (B : Blocks)

/-- The normalised input. -/
def tHidden : FVec Ideal S512x1024 .bf16 := k0_pay11 (k0_pay9 B.x1 B.x0 B.x2) (k0_pay10 B.x1)

/-- A group of 512 columns of the weights, from column `o` on. -/
def tWeight (o : Fin 3 → ℕ) (h : ∀ a, o a + S1x1024x512.size a ≤ S1x1024x4096.size a) : Vec Ideal S1x1024x512 .bf16 :=
  View.ld B.x3 (Rect.unit (s := S1x1024x4096) o S1x1024x512.size h)

def tQuery : FVec Ideal S512x512 .f32 :=
  k0_pay12 (k0_pay6 B.x6) (k0_pay8 B.x10) (k0_pay9 B.x1 B.x0 B.x2) (k0_pay10 B.x1) (tWeight B ![0, 0, 0] inb_S1x1024x4096_S1x1024x512_0_0_0)
def tKey : FVec Ideal S512x512 .f32 :=
  k0_pay13 (k0_pay7 B.x7) (k0_pay8 B.x10) (k0_pay9 B.x1 B.x0 B.x2) (k0_pay10 B.x1) (tWeight B ![0, 0, 512] inb_S1x1024x4096_S1x1024x512_0_0_512)
def tValue : FVec Ideal S512x512 .f32 :=
  k0_pay14 (k0_pay9 B.x1 B.x0 B.x2) (k0_pay10 B.x1) (tWeight B ![0, 0, 1024] inb_S1x1024x4096_S1x1024x512_0_0_1024)
def tGate : FVec Ideal S512x512 .f32 :=
  k0_pay16 (tHidden B) (k0_pay15 (tWeight B ![0, 0, 1536] inb_S1x1024x4096_S1x1024x512_0_0_1536))
def tForget : FVec Ideal S512x128 .f32 := k0_pay17 (k0_pay5 B.x5) (tHidden B) B.x4
def tB : FVec Ideal S512x512 .f32 :=
  k0_pay18 (tHidden B) (tWeight B ![0, 0, 2048] inb_S1x1024x4096_S1x1024x512_0_0_2048)
/-- The convolution's input. -/
def tU : FVec Ideal S512x512 .f32 :=
  k0_pay19 (tHidden B) (tWeight B ![0, 0, 2560] inb_S1x1024x4096_S1x1024x512_0_0_2560)
    (tWeight B ![0, 0, 3072] inb_S1x1024x4096_S1x1024x512_0_0_3072)
def tZ : FVec Ideal S512x512 .f32 :=
  k0_pay20 (tHidden B) (tWeight B ![0, 0, 3584] inb_S1x1024x4096_S1x1024x512_0_0_3584)
/-- The convolution's output, from the carried 8 rows. -/
def tConv (s : Vec Ideal S8x512 .f32) : FVec Ideal S1x512x512 .bf16 :=
  k0_pay1 (tB B) (tU B) (tZ B) (k0_pay31 (tU B) s) (k0_pay32 (tU B) s) (k0_pay33 B.x8) (k0_pay34 B.x9)

end terms

section values

variable {A : Args} {b : Fin 4} {i : Fin 8} {B : Blocks} (H : Reads A b i B)
include H

/-- The normalised input, -/
theorem hidden_at (r : Fin 512) (d : Fin 1024) : tHidden B (ix2 r d) = hidden A.x A.g A.ng b (row i r) d := by
  have e1 (d : Fin 1024) (hx) : (⟨1024 + d.val, hx⟩ : Fin 3072) = scaleAt d := rfl
  have e2 (d : Fin 1024) (hx) : (⟨d.val, hx⟩ : Fin 3072) = shiftAt d := rfl
  pointwise [tHidden, k0_pay11, k0_pay9, k0_pay10, k0_pay4]
  simp only [H.r0, H.r1, H.r2, e1, e2]
  rfl

/-- a group of columns of the weights, -/
theorem weight_at (o : ℕ) (h : ∀ a, (![0, 0, o] : Fin 3 → ℕ) a + S1x1024x512.size a ≤ S1x1024x4096.size a) (ho : o + 512 ≤ 4096)
    (k : Fin 1024) (l : Fin 512) :
    tWeight B ![0, 0, o] h (ix3 0 k l) = A.w (ix3 0 k (mainCol ⟨o + l, by omega⟩)) := by
  rw [← H.r3]
  pointwise [tWeight]

/-- the product with a group of columns, the values, -/
theorem value_at (r : Fin 512) (l : Fin 512) : tValue B (ix2 r l) = column A.x A.g A.ng A.w b (row i r) (vCol l) := by
  have e : mainCol ⟨1024 + l, by omega⟩ = vCol l := by unfold mainCol; rw [dif_pos (by show 1024 + l.val < 2048; omega)]; rfl
  have hh := hidden_at H
  unfold tHidden at hh
  unfold tValue
  pointwise [k0_pay14]
  simp only [hh, weight_at H 1024 _ (by omega), e]
  rfl

/-- the attention's gate, -/
theorem gate_at (r : Fin 512) (l : Fin 512) :
    tGate B (ix2 r l) = silu (column A.x A.g A.ng A.w b (row i r) (gCol l)) := by
  have e : mainCol ⟨1536 + l, by omega⟩ = gCol l := by unfold mainCol; rw [dif_pos (by show 1536 + l.val < 2048; omega)]; rfl
  unfold tGate
  pointwise [k0_pay16, k0_pay15]
  simp only [hidden_at H, weight_at H 1536 _ (by omega), e]
  rfl

/-- the log-forgets, -/
theorem forget_at (r : Fin 512) (h : Fin 8) :
    tForget B (ix2 r (lane h)) = forget A.x A.g A.ng A.w A.bf b (row i r) h := by
  unfold tForget
  pointwise [k0_pay17, k0_pay5]
  simp only [hidden_at H, H.r4, H.r5]
  rfl

/-- and the convolution's inputs. -/
theorem b_at (r : Fin 512) (l : Fin 512) : tB B (ix2 r l) = column A.x A.g A.ng A.w b (row i r) (bCol l) := by
  have e : mainCol ⟨2048 + l, by omega⟩ = bCol l := by
    unfold mainCol; rw [dif_neg (by show ¬ 2048 + l.val < 2048; omega)]; exact Fin.ext (by simp only [bCol]; omega)
  unfold tB
  pointwise [k0_pay18]
  simp only [hidden_at H, weight_at H 2048 _ (by omega), e]
  rfl

theorem u_at (r : Fin 512) (l : Fin 512) : tU B (ix2 r l) = gated A.x A.g A.ng A.w b (row i r) l := by
  have e : mainCol ⟨2560 + l, by omega⟩ = cCol l := by
    unfold mainCol; rw [dif_neg (by show ¬ 2560 + l.val < 2048; omega)]; exact Fin.ext (by simp only [cCol]; omega)
  have e' : mainCol ⟨3072 + l, by omega⟩ = uCol l := by
    unfold mainCol; rw [dif_neg (by show ¬ 3072 + l.val < 2048; omega)]; exact Fin.ext (by simp only [uCol]; omega)
  unfold tU
  pointwise [k0_pay19]
  simp only [hidden_at H, weight_at H 2560 _ (by omega), weight_at H 3072 _ (by omega), e, e']
  rfl

theorem z_at (r : Fin 512) (l : Fin 512) : tZ B (ix2 r l) = column A.x A.g A.ng A.w b (row i r) (zCol l) := by
  have e : mainCol ⟨3584 + l, by omega⟩ = zCol l := by
    unfold mainCol; rw [dif_neg (by show ¬ 3584 + l.val < 2048; omega)]; exact Fin.ext (by simp only [zCol]; omega)
  unfold tZ
  pointwise [k0_pay20]
  simp only [hidden_at H, weight_at H 3584 _ (by omega), e]
  rfl

end values

end Cert.Kernel2Ideal.Input

end
-- ==== Proof.InPoint.lean ====
/-
  What a grid point of the input projection leaves in its nine output blocks and in the carried rows, as terms of its input
  blocks.
-/
module

public import proofs.«01_k».proof.Proof.InBlock
public import proofs.«01_k».proof.Proof.Gen.Kernel2Ideal.Frame
public import Idealize.ShloMosaic.Lib.Tactic
public import Idealize.ShloMosaic.Lib.Pipeline.Value
public import Idealize.ShloMosaic.Lib.Pipeline.ReadBack

@[expose] public section

set_option maxRecDepth 16384

noncomputable section

namespace Cert.Kernel2Ideal.Input

open Cert.Kernel2Ideal Cert.Kernel2Ideal.Gen Cert.In
open Idealize.ShloMosaic Idealize.ShloMosaic.TcCoe Idealize.ShloMosaic.Tactic
open Idealize.SL Idealize.SL.Sem

variable (m : (ℓ : Loc nD τ sig) → Buf (Elt Ideal) ℓ) (c : Dev nD) (t : Fin cfg0.N)

/-- A point's input blocks. -/
def blocks : Blocks where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## Loads of whole blocks -/

theorem whole0 (x : Vec Ideal S1x512x1024 .f32) : View.ld x (Rect.unit ![0, 0, 0] ![1, 512, 1024] inb_S1x512x1024_S1x512x1024_0_0_0) = x :=
  View.ld_unit_zero (S := S1x512x1024) hz3 _ _
theorem whole1 (x : Vec Ideal S1x1x1x3072 .f32) : View.ld x (Rect.unit ![0, 0, 0, 0] ![1, 1, 1, 3072] inb_S1x1x1x3072_S1x1x1x3072_0_0_0_0) = x :=
  View.ld_unit_zero (S := S1x1x1x3072) hz4 _ _
theorem whole2 (x : Vec Ideal S1x1x1024 .f32) : View.ld x (Rect.unit ![0, 0, 0] ![1, 1, 1024] inb_S1x1x1024_S1x1x1024_0_0_0) = x :=
  View.ld_unit_zero (S := S1x1x1024) hz3 _ _
theorem whole4 (x : Vec Ideal S1x1024x128 .bf16) : View.ld x (Rect.unit ![0, 0, 0] ![1, 1024, 128] inb_S1x1024x128_S1x1024x128_0_0_0) = x :=
  View.ld_unit_zero (S := S1x1024x128) hz3 _ _
theorem whole5 (x : Vec Ideal S1x1x128 .f32) : View.ld x (Rect.unit ![0, 0, 0] ![1, 1, 128] inb_S1x1x128_S1x1x128_0_0_0) = x :=
  View.ld_unit_zero (S := S1x1x128) hz3 _ _
theorem whole6 (x : Vec Ideal S1x1x512 .f32) : View.ld x (Rect.unit ![0, 0, 0] ![1, 1, 512] inb_S1x1x512_S1x1x512_0_0_0) = x :=
  View.ld_unit_zero (S := S1x1x512) hz3 _ _
theorem whole8 (x : Vec Ideal S1x3x512 .f32) : View.ld x (Rect.unit ![0, 0, 0] ![1, 3, 512] inb_S1x3x512_S1x3x512_0_0_0) = x :=
  View.ld_unit_zero (S := S1x3x512) hz3 _ _
theorem whole10 (x : Vec Ideal S256x256 .bf16) : View.ld x (Rect.unit ![0, 0] ![256, 256] inb_S256x256_S256x256_0_0) = x :=
  View.ld_unit_zero (S := S256x256) hz2 _ _
theorem wholeS (x : Vec Ideal S8x512 .f32) : View.ld x (Rect.unit ![0, 0] ![8, 512] inb_S8x512_S8x512_0_0) = x :=
  View.ld_unit_zero (S := S8x512) hz2 _ _

/-- The two halves of a tile's values, each in its piece. -/
def halves (v : FVec Ideal S512x512 .f32) : Vec Ideal S1x2x512x256 .bf16 :=
  View.canon [⟨Rect.unit (s := S1x2x512x256) ![0, 1, 0, 0] S1x1x512x256.size inb_S1x2x512x256_S1x1x512x256_0_1_0_0, k0_pay27 v⟩,
    ⟨Rect.unit (s := S1x2x512x256) ![0, 0, 0, 0] S1x1x512x256.size inb_S1x2x512x256_S1x1x512x256_0_0_0_0, k0_pay26 v⟩]

/-- A point's blocks of the first eight results and its carried rows, from the rows carried to it. -/
def leaves (B : Blocks) (s : Vec Ideal S8x512 .f32) := (k0_pay21 (tQuery B), k0_pay22 (tKey B), halves (tValue B), k0_pay23 (tKey B),
  k0_pay25 (tValue B), k0_pay29 (tForget B), k0_pay28 (tGate B), tConv B s, k0_pay2 (tU B))

/-- The part of what a point leaves that `leaves` describes: all but the last two inputs of the convolution. -/
abbrev part (o : Vec Ideal S1x512x512 .bf16 × Vec Ideal S1x512x512 .bf16 × Vec Ideal S1x2x512x256 .bf16 × Vec Ideal S1x512x512 .f32
    × Vec Ideal S1x512x512 .f32 × Vec Ideal S1x8x512 .f32 × Vec Ideal S1x512x512 .f32 × Vec Ideal S1x512x512 .bf16
    × Vec Ideal S1x2x512 .f32 × Vec Ideal S8x512 .f32) :=
  (o.1, o.2.1, o.2.2.1, o.2.2.2.1, o.2.2.2.2.1, o.2.2.2.2.2.1, o.2.2.2.2.2.2.1, o.2.2.2.2.2.2.2.1, o.2.2.2.2.2.2.2.2.2)

/-- A batch's first point carries in zeros; -/
theorem leaves_A (h0 : t.val % 8 = 0) (h1 : ¬t.val % 8 = 7) :
    part (outsAt0 m c t.val t.isLt) = leaves (blocks m c t) (k0_pay30 (F := Ideal)) := by
  rw [outsAt0_A m c t h0 h1]
  unfold part leaves blocks
  dsimp only
  simp only [Prod.mk.injEq]
  unfold out0_A_11 out0_A_12 out0_A_13 out0_A_14 out0_A_15 out0_A_16 out0_A_17 out0_A_18 sout0_A_0
  simp only [View.read_writes_junk_eq_canon]
  unfold kernelRun0_A
  dsimp only
  refine ⟨?_, ?_, ?_, ?_, ?_, ?_, ?_, ?_, ?_⟩ <;> sl_unfold_words <;>
    simp only [View.canon_unit_zero (S := S1x512x512) hz3, View.canon_unit_zero (S := S1x8x512) hz3, View.readAt_eq_ld,
      Memref.IsWhole.read_unread, read_unread_whole, whole0, whole1, whole2, whole4, whole5, whole6, whole8, whole10, wholeS,
      View.readCov_unit_zero (S := S8x512) _ hz2, View.canon_cons_unit_zero (S := S8x512) hz2]
  all_goals try generalize iblk m c 10 t = y10
  all_goals try generalize iblk m c 9 t = y9
  all_goals try generalize iblk m c 8 t = y8
  all_goals try generalize iblk m c 7 t = y7
  all_goals try generalize iblk m c 6 t = y6
  all_goals try generalize iblk m c 5 t = y5
  all_goals try generalize iblk m c 4 t = y4
  all_goals try generalize iblk m c 3 t = y3
  all_goals try generalize iblk m c 2 t = y2
  all_goals try generalize iblk m c 1 t = y1
  all_goals try generalize iblk m c 0 t = y0
  all_goals try simp only [tHidden, tWeight, tQuery, tKey, tValue, tGate, tForget, tB, tU, tZ, tConv, halves]
  all_goals with_reducible rfl

/-- a later one what the point before left, -/
theorem leaves_B (h0 : ¬t.val % 8 = 0) (h1 : ¬t.val % 8 = 7) :
    part (outsAt0 m c t.val t.isLt) = leaves (blocks m c t) (outsAt0 m c (t.val - 1) (Nat.lt_of_le_of_lt (Nat.sub_le _ _) t.isLt)).2.2.2.2.2.2.2.2.2 := by
  rw [outsAt0_B m c t h0 h1]
  unfold part leaves blocks
  dsimp only
  simp only [Prod.mk.injEq]
  unfold out0_B_11 out0_B_12 out0_B_13 out0_B_14 out0_B_15 out0_B_16 out0_B_17 out0_B_18 sout0_B_0
  simp only [View.read_writes_junk_eq_canon]
  unfold kernelRun0_B
  dsimp only
  refine ⟨?_, ?_, ?_, ?_, ?_, ?_, ?_, ?_, ?_⟩ <;> sl_unfold_words <;>
    simp only [View.canon_unit_zero (S := S1x512x512) hz3, View.canon_unit_zero (S := S1x8x512) hz3, View.readAt_eq_ld,
      Memref.IsWhole.read_unread, read_unread_whole, whole0, whole1, whole2, whole4, whole5, whole6, whole8, whole10, wholeS,
      View.readCov_unit_zero (S := S8x512) _ hz2, View.canon_cons_unit_zero (S := S8x512) hz2]
  all_goals try generalize iblk m c 10 t = y10
  all_goals try generalize iblk m c 9 t = y9
  all_goals try generalize iblk m c 8 t = y8
  all_goals try generalize iblk m c 7 t = y7
  all_goals try generalize iblk m c 6 t = y6
  all_goals try generalize iblk m c 5 t = y5
  all_goals try generalize iblk m c 4 t = y4
  all_goals try generalize iblk m c 3 t = y3
  all_goals try generalize iblk m c 2 t = y2
  all_goals try generalize iblk m c 1 t = y1
  all_goals try generalize iblk m c 0 t = y0
  all_goals try simp only [tHidden, tWeight, tQuery, tKey, tValue, tGate, tForget, tB, tU, tZ, tConv, halves]
  all_goals with_reducible rfl

/-- the last one too; -/
theorem leaves_C (h0 : ¬t.val % 8 = 0) (h1 : t.val % 8 = 7) :
    part (outsAt0 m c t.val t.isLt) = leaves (blocks m c t) (outsAt0 m c (t.val - 1) (Nat.lt_of_le_of_lt (Nat.sub_le _ _) t.isLt)).2.2.2.2.2.2.2.2.2 := by
  rw [outsAt0_C m c t h0 h1]
  unfold part leaves blocks
  dsimp only
  simp only [Prod.mk.injEq]
  unfold out0_C_11 out0_C_12 out0_C_13 out0_C_14 out0_C_15 out0_C_16 out0_C_17 out0_C_18 sout0_C_0
  simp only [View.read_writes_junk_eq_canon]
  unfold kernelRun0_C
  dsimp only
  refine ⟨?_, ?_, ?_, ?_, ?_, ?_, ?_, ?_, ?_⟩ <;> sl_unfold_words <;>
    simp only [View.canon_unit_zero (S := S1x512x512) hz3, View.canon_unit_zero (S := S1x8x512) hz3, View.readAt_eq_ld,
      Memref.IsWhole.read_unread, read_unread_whole, whole0, whole1, whole2, whole4, whole5, whole6, whole8, whole10, wholeS,
      View.readCov_unit_zero (S := S8x512) _ hz2, View.canon_cons_unit_zero (S := S8x512) hz2]
  all_goals try generalize iblk m c 10 t = y10
  all_goals try generalize iblk m c 9 t = y9
  all_goals try generalize iblk m c 8 t = y8
  all_goals try generalize iblk m c 7 t = y7
  all_goals try generalize iblk m c 6 t = y6
  all_goals try generalize iblk m c 5 t = y5
  all_goals try generalize iblk m c 4 t = y4
  all_goals try generalize iblk m c 3 t = y3
  all_goals try generalize iblk m c 2 t = y2
  all_goals try generalize iblk m c 1 t = y1
  all_goals try generalize iblk m c 0 t = y0
  all_goals try simp only [tHidden, tWeight, tQuery, tKey, tValue, tGate, tForget, tB, tU, tZ, tConv, halves]
  all_goals with_reducible rfl

/-- and it leaves the convolution's last two inputs. -/
theorem hist_C (h0 : ¬t.val % 8 = 0) (h1 : t.val % 8 = 7) :
    (outsAt0 m c t.val t.isLt).2.2.2.2.2.2.2.2.1 = k0_pay3 (tU (blocks m c t)) := by
  rw [outsAt0_C m c t h0 h1]
  unfold blocks
  dsimp only
  unfold out0_C_19
  simp only [View.read_writes_junk_eq_canon]
  unfold kernelRun0_C
  dsimp only
  sl_unfold_words
  simp only [View.canon_unit_zero (S := S1x2x512) hz3, View.readAt_eq_ld,
    Memref.IsWhole.read_unread, read_unread_whole, whole0, whole1, whole2, tHidden, tWeight, tU]

end Cert.Kernel2Ideal.Input

end
-- ==== Proof.InHost.lean ====
/-
  The arrays the host lays out for the input projection, at an index.
-/
module

public import proofs.«01_k».proof.Proof.InBlock
public import proofs.«01_k».proof.Proof.Gen.Kernel2Ideal.Frame
public import Idealize.ShloMosaic.Lib.Tactic
public import Idealize.ShloMosaic.Lib.Pipeline.ValueKit
public import Idealize.ShloMosaic.Lib.StableHlo.ReadAt

@[expose] public section

set_option maxRecDepth 16384

noncomputable section

namespace Cert.Kernel2Ideal.Input

open Cert.Kernel2Ideal Cert.Kernel2Ideal.Gen Cert.In
open Idealize.ShloMosaic Idealize.ShloMosaic.TcCoe Idealize.ShloMosaic.Tactic
open Idealize.SL Idealize.SL.Sem

variable (m : (ℓ : Loc nD τ sig) → Buf (Elt Ideal) ℓ) (c : Dev nD)

theorem host2 (d : Fin 1024) : (V m c main_v17 : FVec Ideal S4x1x1024 .f32) (ix3 0 0 d) = m ((c : Thread nD τ).loc main_arg2) (ix2 0 d) := by
  unfold V
  after_reads_at

theorem host3 (k : Fin 1024) (l : Fin 4096) : (V m c main_v3 : FVec Ideal S4x1024x4096 .bf16) (ix3 0 k l)
    = m ((c : Thread nD τ).loc main_arg3) (ix3 0 k (mainCol l)) := by
  unfold V
  after_reads_at
  by_cases h : l.val < 2048
  · rw [dif_pos h]
    after_reads_at
    exact congrArg (fun z => m ((c : Thread nD τ).loc main_arg3) (ix3 0 k z)) (by unfold mainCol; rw [dif_pos h])
  · rw [dif_neg h]
    after_reads_at
    refine congrArg (fun z => m ((c : Thread nD τ).loc main_arg3) (ix3 0 k z)) ?_
    unfold mainCol
    rw [dif_neg h]
    exact Fin.ext (by simp only; omega)

theorem host4 (k : Fin 1024) (h : Fin 8) : (V m c main_v6 : FVec Ideal S4x1024x128 .bf16) (ix3 0 k (lane h))
    = m ((c : Thread nD τ).loc main_arg3) (ix3 0 k (fCol h)) := by
  unfold V
  after_reads_at
  exact (dif_pos (show (lane h).val < 8 from h.isLt)).trans rfl

theorem host5 (h : Fin 8) : (V m c main_v8 : FVec Ideal S4x1x128 .f32) (ix3 0 0 (lane h))
    = m ((c : Thread nD τ).loc main_arg4) (ix2 0 h) := by
  unfold V
  after_reads_at
  exact (dif_pos (show (lane h).val < 8 from h.isLt)).trans rfl

theorem host6 (h : Fin 8) (d : Fin 64) : (V m c main_v12 : FVec Ideal S4x1x512 .f32) (ix3 0 0 (col h d))
    = m ((c : Thread nD τ).loc main_arg5) (ix2 0 d) := by
  unfold V
  after_reads_at
  exact congrArg (fun z => m ((c : Thread nD τ).loc main_arg5) (ix2 0 z)) (Fin.ext (by simp only [col]; omega))

theorem host7 (h : Fin 8) (d : Fin 64) : (V m c main_v16 : FVec Ideal S4x1x512 .f32) (ix3 0 0 (col h d))
    = m ((c : Thread nD τ).loc main_arg6) (ix2 0 d) := by
  unfold V
  after_reads_at
  exact congrArg (fun z => m ((c : Thread nD τ).loc main_arg6) (ix2 0 z)) (Fin.ext (by simp only [col]; omega))

theorem host9 (l : Fin 512) : (V m c main_v18 : FVec Ideal S4x1x512 .f32) (ix3 0 0 l)
    = m ((c : Thread nD τ).loc main_arg8) (ix2 0 l) := by
  unfold V
  after_reads_at

end Cert.Kernel2Ideal.Input

end
-- ==== Proof.InConv.lean ====
/-
  A grid point's convolution at an index, from the carried 8 rows.
-/
module

public import proofs.«01_k».proof.Proof.InBlock

@[expose] public section

set_option maxRecDepth 16384

noncomputable section

namespace Cert.Kernel2Ideal.Input

open Cert.Kernel2Ideal Cert.Kernel2Ideal.Gen Cert.In
open Idealize.ShloMosaic Idealize.ShloMosaic.TcCoe

variable {A : Args} {b : Fin 4} {i : Fin 8} {B : Blocks} (H : Reads A b i B)

/-- The carried rows `s` hold the convolution's inputs of the 8 positions before the tile, zero before the start. -/
def Carried (A : Args) (b : Fin 4) (i : Fin 8) (s : Vec Ideal S8x512 .f32) : Prop :=
  ∀ (j : Fin 8) (l : Fin 512), s (ix2 j l) =
    if h : 8 ≤ 512 * i.val + j.val then gated A.x A.g A.ng A.w b ⟨512 * i + j - 8, by omega⟩ l else 0

/-- A choice by a row's number. -/
theorem choose_row (n k : ℕ) (hn : n < 2 ^ 32) (hk : k < 2 ^ 32) (x y : EReal) :
    Scalar.select (IntOp.cmpi .eq (BitVec.ofNat 32 n) (BitVec.ofNat 32 k)) x y = if n = k then x else y := by
  by_cases h : n = k
  · subst h
    simp [Scalar.select, IntOp.cmpi]
  · have : BitVec.ofNat 32 n ≠ BitVec.ofNat 32 k := fun e => h (by
      have := congrArg BitVec.toNat e
      rwa [BitVec.toNat_ofNat, BitVec.toNat_ofNat, Nat.mod_eq_of_lt hn, Nat.mod_eq_of_lt hk] at this)
    have e : (BitVec.ofNat 32 n == BitVec.ofNat 32 k) = false := beq_eq_false_iff_ne.mpr this
    rw [if_neg h]
    show (if BitVec.ofBool (BitVec.ofNat 32 n == BitVec.ofNat 32 k) = 1#1 then x else y) = y
    rw [e]
    rfl

include H

/-- The convolution's input one position back, -/
theorem one_back (s : Vec Ideal S8x512 .f32) (hs : Carried A b i s) (r l : Fin 512) :
    k0_pay31 (tU B) s (ix2 r l) = before A.x A.g A.ng A.w b (row i r) 1 l := by
  pointwise [k0_pay31]
  rw [choose_row _ 0 (by omega) (by omega), hs, u_at H, before]
  have hrow : (row i r).val = 512 * i.val + r.val := rfl
  split_ifs <;> first
    | exact congrArg (fun p => gated A.x A.g A.ng A.w b p l) (Fin.ext (by simp only [row]; omega))
    | rfl
    | (exfalso; simp only [hrow] at *; omega)

/-- two positions back, -/
theorem two_back (s : Vec Ideal S8x512 .f32) (hs : Carried A b i s) (r l : Fin 512) :
    k0_pay32 (tU B) s (ix2 r l) = before A.x A.g A.ng A.w b (row i r) 2 l := by
  pointwise [k0_pay32]
  rw [choose_row _ 0 (by omega) (by omega), choose_row _ 1 (by omega) (by omega), hs, hs, u_at H, before]
  have hrow : (row i r).val = 512 * i.val + r.val := rfl
  split_ifs <;> first
    | exact congrArg (fun p => gated A.x A.g A.ng A.w b p l) (Fin.ext (by simp only [row]; omega))
    | rfl
    | (exfalso; simp only [hrow] at *; omega)

/-- its output. -/
theorem conv_at (s : Vec Ideal S8x512 .f32) (hs : Carried A b i s) (r l : Fin 512) :
    tConv B s (ix3 0 r l) = conv A.x A.g A.ng A.w A.cw A.cb b (row i r) l := by
  unfold tConv
  pointwise [k0_pay1, k0_pay33, k0_pay34]
  simp only [b_at H, u_at H, z_at H, one_back H s hs, two_back H s hs, H.r8, H.r9]
  rfl

/-- What the tile carries over to the next one. -/
theorem carried (hi : i.val + 1 < 8) : Carried A b ⟨i + 1, hi⟩ (k0_pay2 (tU B)) := by
  intro j l
  pointwise [k0_pay2]
  rw [u_at H, dif_pos (by show 8 ≤ 512 * (i.val + 1) + j.val; omega)]
  exact congrArg (fun p => gated A.x A.g A.ng A.w b p l) (Fin.ext (by simp only [row]; omega))

omit H in
/-- The first tile begins with zeros. -/
theorem carried_zero : Carried A b 0 (k0_pay30 (F := Ideal)) := by
  intro j l
  rw [dif_neg (by show ¬ 8 ≤ 512 * 0 + j.val; omega)]
  pointwise [k0_pay30]

end Cert.Kernel2Ideal.Input

end
-- ==== Proof.InMask.lean ====
/-
  The matrix by which the input projection averages the squares of each head's 64 numbers: the host builds it from row and
  column numbers.
-/
module

public import proofs.«01_k».proof.Proof.InConv
public import proofs.«01_k».proof.Proof.Gen.Kernel2Ideal.Frame
public import Idealize.ShloMosaic.Lib.Tactic
public import Idealize.ShloMosaic.Lib.Pipeline.ValueKit
public import Idealize.ShloMosaic.Lib.StableHlo.ReadAt

@[expose] public section

set_option maxRecDepth 16384

noncomputable section

namespace Cert.Kernel2Ideal.Input

open Cert.Kernel2Ideal Cert.Kernel2Ideal.Gen Cert.In
open Idealize.ShloMosaic Idealize.ShloMosaic.TcCoe Idealize.ShloMosaic.Tactic
open Idealize.SL Idealize.SL.Sem

/-- The host's division of a number by 64, rounded down. -/
def quotient (n : BitVec 32) : BitVec 32 :=
  Scalar.select
    (IntOp.andi
      (IntOp.cmpi .ne (if n = 0 then 0 else if n.msb = true then -1 else (1 : BitVec 32))
        (if (64#32 : BitVec 32) = 0 then 0 else if BitVec.msb 64#32 = true then -1 else (1 : BitVec 32)))
      (IntOp.cmpi .ne (IntOp.remsi .host n 64#32) 0#32))
    (IntOp.subi (IntOp.divsi .host n 64#32) 1#32) (IntOp.divsi .host n 64#32)

theorem quotient_eq : ∀ u : Fin 256, quotient (BitVec.ofNat 32 u) = BitVec.ofNat 32 (u / 64) := by decide +kernel

variable (m : (ℓ : Loc nD τ sig) → Buf (Elt Ideal) ℓ) (c : Dev nD)

theorem host10 (u v : Fin 256) : (V m c main_v27 : FVec Ideal S256x256 .bf16) (ix2 u v)
    = if u.val / 64 = v.val / 64 then Ideal.ofBits .f32 0x3C800000#32 else 0 := by
  unfold V
  after_reads_at
  change Scalar.select (IntOp.cmpi .eq (quotient (BitVec.ofNat 32 u)) (quotient (BitVec.ofNat 32 v))) _ _ = _
  rw [quotient_eq, quotient_eq]
  exact choose_row _ _ (by omega) (by omega) _ _

end Cert.Kernel2Ideal.Input

end
-- ==== Proof.InRead.lean ====
/-
  The input projection's blocks at a grid point are parts of its arguments, which the host lays out first.
-/
module

public import proofs.«01_k».proof.Proof.InHost
public import proofs.«01_k».proof.Proof.InMask
public import proofs.«01_k».proof.Proof.Gen.Kernel2Ideal.Frame
public import Idealize.ShloMosaic.Lib.Tactic
public import Idealize.ShloMosaic.Lib.Pipeline.ValueKit

@[expose] public section

set_option maxRecDepth 16384

noncomputable section

namespace Cert.Kernel2Ideal.Input

open Cert.Kernel2Ideal Cert.Kernel2Ideal.Gen Cert.In
open Idealize.ShloMosaic Idealize.ShloMosaic.TcCoe Idealize.ShloMosaic.Tactic
open Idealize.SL Idealize.SL.Sem

/-! ## Which block each window reads at a grid point (batch, tile of 512 rows) -/

theorem index0 : ∀ t : Fin cfg0.N, win0_0.index t = ![(grid0.coords t 0).val, (grid0.coords t 1).val, 0] :=
  (by decide +kernel : ∀ t : Fin grid0.N, _)
theorem index1 : ∀ t : Fin cfg0.N, win0_1.index t = ![0, (grid0.coords t 0).val, 0, 0] := (by decide +kernel : ∀ t : Fin grid0.N, _)
theorem index2 : ∀ t : Fin cfg0.N, win0_2.index t = ![0, 0, 0] := (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![0, 0, 0] := (by decide +kernel : ∀ t : Fin grid0.N, _)
theorem index5 : ∀ t : Fin cfg0.N, win0_5.index t = ![0, 0, 0] := (by decide +kernel : ∀ t : Fin grid0.N, _)
theorem index6 : ∀ t : Fin cfg0.N, win0_6.index t = ![0, 0, 0] := (by decide +kernel : ∀ t : Fin grid0.N, _)
theorem index7 : ∀ t : Fin cfg0.N, win0_7.index t = ![0, 0, 0] := (by decide +kernel : ∀ t : Fin grid0.N, _)
theorem index8 : ∀ t : Fin cfg0.N, win0_8.index t = ![0, 0, 0] := (by decide +kernel : ∀ t : Fin grid0.N, _)
theorem index9 : ∀ t : Fin cfg0.N, win0_9.index t = ![0, 0, 0] := (by decide +kernel : ∀ t : Fin grid0.N, _)

theorem index10 : ∀ t : Fin cfg0.N, win0_10.index t = ![0, 0] := (by decide +kernel : ∀ t : Fin grid0.N, _)

variable (m : (ℓ : Loc nD τ sig) → Buf (Elt Ideal) ℓ) (c : Dev nD) (t : Fin cfg0.N)

/-- A point's batch and tile. -/
def batch : Fin 4 := grid0.coords t 0
def tile : Fin 8 := grid0.coords t 1

/-- The arguments. -/
def args : Args where
  x := m ((c : Thread nD τ).loc main_arg0)
  g := m ((c : Thread nD τ).loc main_arg1)
  ng := m ((c : Thread nD τ).loc main_arg2)
  w := m ((c : Thread nD τ).loc main_arg3)
  bf := m ((c : Thread nD τ).loc main_arg4)
  qg := m ((c : Thread nD τ).loc main_arg5)
  kg := m ((c : Thread nD τ).loc main_arg6)
  cw := m ((c : Thread nD τ).loc main_arg7)
  cb := m ((c : Thread nD τ).loc main_arg8)

theorem read0 (r : Fin 512) (d : Fin 1024) : (iblk m c 0 t : FVec Ideal S1x512x1024 .f32) (ix3 0 r d)
    = m ((c : Thread nD τ).loc main_arg0) (ix3 (batch t) (row (tile t) r) d) := by
  blk_ext! [iblk, V_main_arg0, index0 t, batch, tile, row]

theorem read1 (e : Fin 3072) : (iblk m c 1 t : FVec Ideal S1x1x1x3072 .f32) (ix4 0 0 0 e)
    = m ((c : Thread nD τ).loc main_arg1) (ix4 0 (slot (batch t)) 0 e) := by
  blk_ext! [iblk, V_main_arg1, index1 t, batch, tile, slot]

theorem read2 (d : Fin 1024) : (iblk m c 2 t : FVec Ideal S1x1x1024 .f32) (ix3 0 0 d)
    = m ((c : Thread nD τ).loc main_arg2) (ix2 0 d) := by
  refine Eq.trans ?_ (host2 m c d)
  blk_ext! [iblk, index2 t]

theorem read3 (k : Fin 1024) (l : Fin 4096) : (iblk m c 3 t : FVec Ideal S1x1024x4096 .bf16) (ix3 0 k l)
    = m ((c : Thread nD τ).loc main_arg3) (ix3 0 k (mainCol l)) := by
  refine Eq.trans ?_ (host3 m c k l)
  blk_ext! [iblk, index3 t]

theorem read4 (k : Fin 1024) (h : Fin 8) : (iblk m c 4 t : FVec Ideal S1x1024x128 .bf16) (ix3 0 k (lane h))
    = m ((c : Thread nD τ).loc main_arg3) (ix3 0 k (fCol h)) := by
  refine Eq.trans ?_ (host4 m c k h)
  blk_ext! [iblk, index4 t]

theorem read5 (h : Fin 8) : (iblk m c 5 t : FVec Ideal S1x1x128 .f32) (ix3 0 0 (lane h))
    = m ((c : Thread nD τ).loc main_arg4) (ix2 0 h) := by
  refine Eq.trans ?_ (host5 m c h)
  blk_ext! [iblk, index5 t]

theorem read6 (h : Fin 8) (d : Fin 64) : (iblk m c 6 t : FVec Ideal S1x1x512 .f32) (ix3 0 0 (col h d))
    = m ((c : Thread nD τ).loc main_arg5) (ix2 0 d) := by
  refine Eq.trans ?_ (host6 m c h d)
  blk_ext! [iblk, index6 t]

theorem read7 (h : Fin 8) (d : Fin 64) : (iblk m c 7 t : FVec Ideal S1x1x512 .f32) (ix3 0 0 (col h d))
    = m ((c : Thread nD τ).loc main_arg6) (ix2 0 d) := by
  refine Eq.trans ?_ (host7 m c h d)
  blk_ext! [iblk, index7 t]

theorem read8 (j : Fin 3) (l : Fin 512) : (iblk m c 8 t : FVec Ideal S1x3x512 .f32) (ix3 0 j l)
    = m ((c : Thread nD τ).loc main_arg7) (ix3 0 j l) := by
  blk_ext! [iblk, V_main_arg7, index8 t, batch, tile]

theorem read9 (l : Fin 512) : (iblk m c 9 t : FVec Ideal S1x1x512 .f32) (ix3 0 0 l)
    = m ((c : Thread nD τ).loc main_arg8) (ix2 0 l) := by
  refine Eq.trans ?_ (host9 m c l)
  blk_ext! [iblk, index9 t]

theorem read10 (u v : Fin 256) : (iblk m c 10 t : FVec Ideal S256x256 .bf16) (ix2 u v)
    = if u.val / 64 = v.val / 64 then Ideal.ofBits .f32 0x3C800000#32 else 0 := by
  refine Eq.trans ?_ (host10 m c u v)
  blk_ext! [iblk, index10 t]

end Cert.Kernel2Ideal.Input

end
-- ==== Proof.InCarry.lean ====
/-
  The input projection's points in order: each finds the rows the point before carried over, and leaves its blocks.
-/
module

public import proofs.«01_k».proof.Proof.InPoint
public import proofs.«01_k».proof.Proof.InRead
public import proofs.«01_k».proof.Proof.InConv

@[expose] public section

set_option maxRecDepth 16384

noncomputable section

namespace Cert.Kernel2Ideal.Input

open Cert.Kernel2Ideal Cert.Kernel2Ideal.Gen Cert.In
open Idealize.ShloMosaic Idealize.ShloMosaic.TcCoe Idealize.ShloMosaic.Tactic
open Idealize.SL Idealize.SL.Sem

theorem batch_val : ∀ t : Fin cfg0.N, (grid0.coords t 0).val = t.val / 8 := (by decide +kernel : ∀ t : Fin grid0.N, _)
theorem tile_val : ∀ t : Fin cfg0.N, (grid0.coords t 1).val = t.val % 8 := (by decide +kernel : ∀ t : Fin grid0.N, _)

variable (m : (ℓ : Loc nD τ sig) → Buf (Elt Ideal) ℓ) (c : Dev nD) (t : Fin cfg0.N)

/-- A point's blocks read the arguments at its batch and tile. -/
theorem reads : Reads (args m c) (batch t) (tile t) (blocks m c t) := by
  unfold blocks args
  constructor <;> dsimp only
  · exact read0 m c t
  · exact read1 m c t
  · exact read2 m c t
  · exact read3 m c t
  · exact read4 m c t
  · exact read5 m c t
  · exact read6 m c t
  · exact read7 m c t
  · exact read8 m c t
  · exact read9 m c t
  · exact read10 m c t

/-- Every point leaves its last rows for the next one. -/
theorem scratch : (outsAt0 m c t.val t.isLt).2.2.2.2.2.2.2.2.2 = k0_pay2 (tU (blocks m c t)) := by
  by_cases h0 : t.val % 8 = 0
  · exact congrArg (fun p => p.2.2.2.2.2.2.2.2) (leaves_A m c t h0 (by omega))
  · by_cases h1 : t.val % 8 = 7
    · exact congrArg (fun p => p.2.2.2.2.2.2.2.2) (leaves_C m c t h0 h1)
    · exact congrArg (fun p => p.2.2.2.2.2.2.2.2) (leaves_B m c t h0 h1)

/-- Every point leaves its blocks, from rows carried to it. -/
theorem point : ∃ s, Carried (args m c) (batch t) (tile t) s ∧ part (outsAt0 m c t.val t.isLt) = leaves (blocks m c t) s := by
  by_cases h0 : t.val % 8 = 0
  · refine ⟨_, ?_, leaves_A m c t h0 (by omega)⟩
    have e : tile t = 0 := Fin.ext ((tile_val t).trans h0)
    rw [e]
    exact carried_zero
  · have hp : t.val - 1 < cfg0.N := Nat.lt_of_le_of_lt (Nat.sub_le _ _) t.isLt
    have hc : Carried (args m c) (batch t) (tile t) (outsAt0 m c (t.val - 1) hp).2.2.2.2.2.2.2.2.2 := by
      have hv := tile_val ⟨t.val - 1, hp⟩
      have hb := batch_val ⟨t.val - 1, hp⟩
      dsimp only at hv hb
      have hi : (tile ⟨t.val - 1, hp⟩).val + 1 < 8 := by unfold tile; omega
      have eb : batch ⟨t.val - 1, hp⟩ = batch t := Fin.ext (by unfold batch; rw [hb, batch_val t]; omega)
      have et : (⟨tile ⟨t.val - 1, hp⟩ + 1, hi⟩ : Fin 8) = tile t := Fin.ext (by
        show (tile ⟨t.val - 1, hp⟩).val + 1 = (tile t).val
        unfold tile; rw [hv, tile_val t]; omega)
      have h := carried (reads m c ⟨t.val - 1, hp⟩) hi
      rw [← scratch m c ⟨t.val - 1, hp⟩, eb, et] at h
      exact h
    by_cases h1 : t.val % 8 = 7
    · exact ⟨_, hc, leaves_C m c t h0 h1⟩
    · exact ⟨_, hc, leaves_B m c t h0 h1⟩

end Cert.Kernel2Ideal.Input

end
-- ==== Proof.InMath.lean ====
/-
  Facts about extended reals for the input projection: a mean as a sum over a block-diagonal matrix, and two forms of the
  logistic function's logarithm.
-/
module

public import proofs.«01_k».proof.Proof.InSpec

@[expose] public section

noncomputable section

namespace Cert.In

open Idealize.ShloMosaic

theorem mul_self_nonneg' (t : EReal) : 0 ≤ t * t := by
  rcases le_total 0 t with h | h
  · exact mul_nonneg h h
  · have := mul_nonneg (EReal.neg_nonneg.mpr h) (EReal.neg_nonneg.mpr h)
    rwa [neg_mul_neg] at this

theorem sixtyFourth : Ideal.ofBits .f32 0x3C800000#32 = ((1 / 64 : ℝ) : EReal) := by
  simp [Ideal.ofBits, Ideal.ieee, -EReal.coe_mul]; norm_num

theorem sixtyFour : Ideal.ofBits .f32 0x42800000#32 = ((64 : ℝ) : EReal) := by
  simp [Ideal.ofBits, Ideal.ieee, -EReal.coe_mul]; norm_num

theorem sum_mul {n : ℕ} (f : Fin n → EReal) (hf : ∀ j, 0 ≤ f j) (k : EReal) : ∑ j, f j * k = (∑ j, f j) * k := by
  induction n with
  | zero => simp
  | succ n ih =>
    rw [Fin.sum_univ_succ, Fin.sum_univ_succ, ih (fun j => f j.succ) fun j => hf _,
      EReal.right_distrib_of_nonneg (hf 0) (Finset.sum_nonneg fun j _ => hf _)]

/-- Lane `e` of the head `a` among 4 heads of 64 lanes. -/
def laneOf (a : Fin 4) (e : Fin 64) : Fin 256 := ⟨64 * a + e, by omega⟩

/-- Against the matrix that holds 1/64 on pairs of lanes of one head, a sum is the head's mean. -/
theorem sum_lanes (f : Fin 256 → EReal) (hf : ∀ j, 0 ≤ f j) (a : Fin 4) :
    ∑ j : Fin 256, f j * (if j.val / 64 = a.val then Ideal.ofBits .f32 0x3C800000#32 else 0)
      = Ideal.div (∑ e : Fin 64, f (laneOf a e)) (Ideal.ofBits .f32 0x42800000#32) := by
  have h : ∀ (a' : Fin 4) (e : Fin 64), finProdFinEquiv (a', e) = laneOf a' e := fun a' e =>
    Fin.ext (by simp [finProdFinEquiv, laneOf]; omega)
  rw [← (finProdFinEquiv (m := 4) (n := 64)).sum_comp, Fintype.sum_prod_type, Finset.sum_eq_single a]
  · have : ∀ e : Fin 64, (laneOf a e).val / 64 = a.val := fun e => by simp only [laneOf]; omega
    simp only [h, this, if_true]
    rw [sum_mul _ fun j => hf _, sixtyFourth, sixtyFour, Ideal.div, if_neg (by norm_num), ← EReal.coe_inv]
    norm_num
  · intro a' _ ne
    refine Finset.sum_eq_zero fun e _ => ?_
    rw [if_neg, mul_zero]
    rw [h]
    intro he
    exact ne (Fin.ext (by simp only [laneOf] at he; omega))
  · simp

/-- Lane `u` of the first and of the second 256 of 512. -/
def low (u : Fin 256) : Fin 512 := ⟨u, by omega⟩
def high (u : Fin 256) : Fin 512 := ⟨256 + u, by omega⟩

/-- The head's mean for a column of 512, whose halves are summed apart. -/
theorem sum_heads (f : Fin 512 → EReal) (hf : ∀ j, 0 ≤ f j) (h : Fin 8) (d : Fin 64) :
    (if _ : (col h d).val < 256 then
        ∑ u, f (low u) * (if u.val / 64 = (col h d).val / 64 then Ideal.ofBits .f32 0x3C800000#32 else 0)
      else ∑ u, f (high u) * (if u.val / 64 = ((col h d).val - 256) / 64 then Ideal.ofBits .f32 0x3C800000#32 else 0))
      = Ideal.div (∑ e : Fin 64, f (col h e)) (Ideal.ofBits .f32 0x42800000#32) := by
  have hc : (col h d).val = 64 * h.val + d.val := rfl
  split
  · next lt =>
    have eh : (col h d).val / 64 = (⟨h, by omega⟩ : Fin 4).val := by show _ = h.val; omega
    rw [eh, sum_lanes (fun u => f (low u)) fun u => hf _]
    rfl
  · next ge =>
    have eh : ((col h d).val - 256) / 64 = (⟨h - 4, by omega⟩ : Fin 4).val := by show _ = h.val - 4; omega
    rw [eh, sum_lanes (fun u => f (high u)) fun u => hf _]
    refine congrArg (Ideal.div · _) (Finset.sum_congr rfl fun e _ => congrArg f (Fin.ext ?_))
    simp only [high, laneOf, col]
    omega

theorem log_real {y : ℝ} (hy : 0 ≤ y) : Ideal.log (1 + (y : EReal)) = ((Real.log (1 + y) : ℝ) : EReal) := by
  rw [← EReal.coe_one, ← EReal.coe_add]
  exact if_neg (by linarith)

/-- The exponential of a number that is not positive is a real one. -/
theorem exp_real {y : EReal} (h : y ≤ 0) : ∃ r : ℝ, 0 ≤ r ∧ Ideal.exp y = r := by
  induction y with
  | bot => exact ⟨0, le_rfl, rfl⟩
  | coe r => exact ⟨Real.exp r, (Real.exp_pos r).le, rfl⟩
  | top => simp at h

theorem max_neg_nonneg (z : EReal) : 0 ≤ max z (-z) := by
  rcases le_total 0 z with h | h
  · exact le_max_of_le_left h
  · exact le_max_of_le_right (EReal.neg_nonneg.mpr h)

/-- The logistic function's logarithm as minus the softplus of `-z`. -/
theorem logSigmoid_eq (z : EReal) :
    -(max (-z) 0 + Ideal.log (1 + Ideal.exp (-max (-z) z))) = logSigmoid z := by
  unfold logSigmoid
  obtain ⟨r, hr, he⟩ := exp_real (y := -max z (-z)) (by simpa using max_neg_nonneg z)
  rw [max_comm (-z) z, zero_sub, he, log_real hr]
  have hm : -max (-z) 0 = min z 0 := by
    rcases le_total 0 z with h | h
    · rw [max_eq_right (by simpa using h), min_eq_right h, neg_zero]
    · rw [max_eq_left (by simpa using h), min_eq_left h, neg_neg]
  rw [EReal.neg_add (Or.inr (EReal.coe_ne_top _)) (Or.inr (EReal.coe_ne_bot _)), hm]

end Cert.In

end
-- ==== Proof.InHeads.lean ====
/-
  A grid point's normalised queries and keys at an index.
-/
module

public import proofs.«01_k».proof.Proof.InMath
public import proofs.«01_k».proof.Proof.InBlock

@[expose] public section

set_option maxRecDepth 16384

noncomputable section

namespace Cert.Kernel2Ideal.Input

open Cert.Kernel2Ideal Cert.Kernel2Ideal.Gen Cert.In
open Idealize.ShloMosaic Idealize.ShloMosaic.TcCoe

variable {A : Args} {b : Fin 4} {i : Fin 8} {B : Blocks} (H : Reads A b i B)
include H

/-- The queries, -/
theorem query_at (r : Fin 512) (h : Fin 8) (d : Fin 64) :
    tQuery B (ix2 r (col h d)) = normed A.x A.g A.ng A.w A.qg b (row i r) qCol h d := by
  have e : mainCol ⟨0 + col h d, by omega⟩ = qCol (col h d) := by
    unfold mainCol; rw [dif_pos (by show 0 + (col h d).val < 2048; omega)]; exact Fin.ext (by simp only [qCol]; omega)
  have el (u : Fin 256) : mainCol ⟨0 + u, by omega⟩ = qCol (low u) := by
    unfold mainCol; rw [dif_pos (by show 0 + u.val < 2048; omega)]; exact Fin.ext (by simp only [qCol, low]; omega)
  have eh (u : Fin 256) : mainCol ⟨0 + (256 + u), by omega⟩ = qCol (high u) := by
    unfold mainCol; rw [dif_pos (by show 0 + (256 + u.val) < 2048; omega)]; exact Fin.ext (by simp only [qCol, high]; omega)
  have hh := hidden_at H
  unfold tHidden at hh
  unfold tQuery
  pointwise [k0_pay12, k0_pay6, k0_pay8]
  have key := sum_heads (fun l => column A.x A.g A.ng A.w b (row i r) (qCol l) * column A.x A.g A.ng A.w b (row i r) (qCol l))
    (fun l => mul_self_nonneg' _) h d
  simp only [column] at key
  simp only [hh, weight_at H 0 _ (by omega), e, el, eh, H.r6, H.r10]
  rw [key]
  rfl

/-- the keys. -/
theorem key_at (r : Fin 512) (h : Fin 8) (d : Fin 64) :
    tKey B (ix2 r (col h d)) = normed A.x A.g A.ng A.w A.kg b (row i r) kCol h d := by
  have e : mainCol ⟨512 + col h d, by omega⟩ = kCol (col h d) := by
    unfold mainCol; rw [dif_pos (by show 512 + (col h d).val < 2048; omega)]; rfl
  have el (u : Fin 256) : mainCol ⟨512 + u, by omega⟩ = kCol (low u) := by
    unfold mainCol; rw [dif_pos (by show 512 + u.val < 2048; omega)]; rfl
  have eh (u : Fin 256) : mainCol ⟨512 + (256 + u), by omega⟩ = kCol (high u) := by
    unfold mainCol; rw [dif_pos (by show 512 + (256 + u.val) < 2048; omega)]; rfl
  have hh := hidden_at H
  unfold tHidden at hh
  unfold tKey
  pointwise [k0_pay13, k0_pay7, k0_pay8]
  have key := sum_heads (fun l => column A.x A.g A.ng A.w b (row i r) (kCol l) * column A.x A.g A.ng A.w b (row i r) (kCol l))
    (fun l => mul_self_nonneg' _) h d
  simp only [column] at key
  simp only [hh, weight_at H 512 _ (by omega), e, el, eh, H.r7, H.r10]
  rw [key]
  rfl

end Cert.Kernel2Ideal.Input

end
-- ==== Proof.InValue.lean ====
/-
  The blocks a point of the input projection stores, at an index: the result arrays at its batch and rows.
-/
module

public import proofs.«01_k».proof.Proof.InPoint
public import proofs.«01_k».proof.Proof.InHeads
public import proofs.«01_k».proof.Proof.InConv
public import Idealize.ShloMosaic.Lib.Pipeline.ValueKit

@[expose] public section

set_option maxRecDepth 16384

noncomputable section

namespace Cert.Kernel2Ideal.Input

open Cert.Kernel2Ideal Cert.Kernel2Ideal.Gen Cert.In
open Idealize.ShloMosaic Idealize.ShloMosaic.TcCoe Idealize.ShloMosaic.Tactic
open Idealize.SL Idealize.SL.Sem

/-- The two halves of a tile's values, at an index. -/
theorem halves_at (v : FVec Ideal S512x512 .f32) (e : Fin 2) (l : Fin 512) (s : Fin 256) :
    halves v (ix4 0 e l s) = v (ix2 ⟨256 * e + s, by omega⟩ l) := by
  unfold halves
  obtain rfl | rfl : e = 0 ∨ e = 1 := by omega
  · rw [View.canon_cons_of_not_mem _ _ (by
      intro h
      have := ((Rect.mem_set_unit (inb := inb_S1x2x512x256_S1x1x512x256_0_1_0_0)).mp h (1 : Fin 4)).1
      exact absurd (show (1 : ℕ) ≤ 0 from this) (by decide))]
    refine Eq.trans (congrArg (View.canon _) (?_ : _ = Rect.emb _ (ix4 0 0 l s))) ((View.canon_cons_emb _ _ _ _).trans ?_)
    · blk_ext []
    · pointwise [k0_pay26, k0_pay24]
  · refine Eq.trans (congrArg (View.canon _) (?_ : _ = Rect.emb _ (ix4 0 0 l s))) ((View.canon_cons_emb _ _ _ _).trans ?_)
    · blk_ext []
    · pointwise [k0_pay27, k0_pay24]

variable {A : Args} {b : Fin 4} {i : Fin 8} {B : Blocks} (H : Reads A b i B)
include H

theorem query_block (r l : Fin 512) : k0_pay21 (tQuery B) (ix3 0 r l) = queries A.x A.g A.ng A.w A.qg (ix3 b (row i r) l) := by
  have h := query_at H r (headOf l) (numOf l)
  rw [← col_of] at h
  pointwise [k0_pay21]
  rw [h]
  rfl

theorem key_block (r l : Fin 512) : k0_pay22 (tKey B) (ix3 0 r l) = keys A.x A.g A.ng A.w A.kg (ix3 b (row i r) l) := by
  have h := key_at H r (headOf l) (numOf l)
  rw [← col_of] at h
  pointwise [k0_pay22]
  exact h

theorem piece_block (e : Fin 2) (l : Fin 512) (s : Fin 256) : halves (tValue B) (ix4 0 e l s)
    = pieces A.x A.g A.ng A.w (ix4 b ⟨2 * i + e, by omega⟩ l s) := by
  rw [halves_at, value_at H]
  refine congrArg (fun p => column A.x A.g A.ng A.w b p (vCol l)) (Fin.ext ?_)
  show 512 * i.val + (256 * e.val + s.val) = 256 * (2 * i.val + e.val) + s.val
  omega

theorem keyT_block (l r : Fin 512) : k0_pay23 (tKey B) (ix3 0 l r) = keysT A.x A.g A.ng A.w A.kg (ix3 b l (row i r)) := by
  have h := key_at H r (headOf l) (numOf l)
  rw [← col_of] at h
  pointwise [k0_pay23]
  exact h

theorem valueT_block (l r : Fin 512) : k0_pay25 (tValue B) (ix3 0 l r) = valuesT A.x A.g A.ng A.w (ix3 b l (row i r)) := by
  pointwise [k0_pay25, k0_pay24]
  exact value_at H r l

theorem forgetT_block (h : Fin 8) (r : Fin 512) :
    k0_pay29 (tForget B) (ix3 0 h r) = forgetsT A.x A.g A.ng A.w A.bf (ix3 b h (row i r)) := by
  pointwise [k0_pay29]
  exact forget_at H r h

theorem gate_block (r l : Fin 512) : k0_pay28 (tGate B) (ix3 0 r l) = gates A.x A.g A.ng A.w (ix3 b (row i r) l) := by
  pointwise [k0_pay28]
  exact gate_at H r l

theorem conv_block (s : Vec Ideal S8x512 .f32) (hs : Carried A b i s) (r l : Fin 512) :
    tConv B s (ix3 0 r l) = convs A.x A.g A.ng A.w A.cw A.cb (ix3 b (row i r) l) := conv_at H s hs r l

theorem history_block (hi : i.val = 7) (e : Fin 2) (l : Fin 512) :
    k0_pay3 (tU B) (ix3 0 e l) = history A.x A.g A.ng A.w (ix3 b e l) := by
  pointwise [k0_pay3]
  rw [u_at H]
  refine congrArg (fun p => gated A.x A.g A.ng A.w b p l) (Fin.ext ?_)
  show 512 * i.val + (510 + e.val) = 4094 + e.val
  omega

end Cert.Kernel2Ideal.Input

end
-- ==== Proof.InFinal.lean ====
/-
  The input projection's nine result arrays.
-/
module

public import proofs.«01_k».proof.Proof.InCarry
public import proofs.«01_k».proof.Proof.InValue
public import Idealize.ShloMosaic.Lib.Pipeline.ValueKit

@[expose] public section

set_option maxRecDepth 16384

noncomputable section

namespace Cert.Kernel2Ideal.Input

open Cert.Kernel2Ideal Cert.Kernel2Ideal.Gen Cert.In
open Idealize.ShloMosaic Idealize.ShloMosaic.TcCoe Idealize.ShloMosaic.Tactic
open Idealize.SL Idealize.SL.Sem

/-! ## Which block each result's window writes at a grid point -/

theorem index11 : ∀ t : Fin cfg0.N, win0_11.index t = ![(grid0.coords t 0).val, (grid0.coords t 1).val, 0] :=
  (by decide +kernel : ∀ t : Fin grid0.N, _)
theorem index12 : ∀ t : Fin cfg0.N, win0_12.index t = ![(grid0.coords t 0).val, (grid0.coords t 1).val, 0] :=
  (by decide +kernel : ∀ t : Fin grid0.N, _)
theorem index13 : ∀ t : Fin cfg0.N, win0_13.index t = ![(grid0.coords t 0).val, (grid0.coords t 1).val, 0, 0] :=
  (by decide +kernel : ∀ t : Fin grid0.N, _)
theorem index14 : ∀ t : Fin cfg0.N, win0_14.index t = ![(grid0.coords t 0).val, 0, (grid0.coords t 1).val] :=
  (by decide +kernel : ∀ t : Fin grid0.N, _)
theorem index15 : ∀ t : Fin cfg0.N, win0_15.index t = ![(grid0.coords t 0).val, 0, (grid0.coords t 1).val] :=
  (by decide +kernel : ∀ t : Fin grid0.N, _)
theorem index16 : ∀ t : Fin cfg0.N, win0_16.index t = ![(grid0.coords t 0).val, 0, (grid0.coords t 1).val] :=
  (by decide +kernel : ∀ t : Fin grid0.N, _)
theorem index17 : ∀ t : Fin cfg0.N, win0_17.index t = ![(grid0.coords t 0).val, (grid0.coords t 1).val, 0] :=
  (by decide +kernel : ∀ t : Fin grid0.N, _)
theorem index18 : ∀ t : Fin cfg0.N, win0_18.index t = ![(grid0.coords t 0).val, (grid0.coords t 1).val, 0] :=
  (by decide +kernel : ∀ t : Fin grid0.N, _)
theorem index19 : ∀ t : Fin cfg0.N, win0_19.index t = ![(grid0.coords t 0).val, 0, 0] :=
  (by decide +kernel : ∀ t : Fin grid0.N, _)

/-- A tile's pieces of 256 positions. -/
def piece (i : Fin 8) (e : Fin 2) : Fin 16 := ⟨2 * i + e, by omega⟩

variable (m : (ℓ : Loc nD τ sig) → Buf (Elt Ideal) ℓ) (c : Dev nD)

/-! ## The arrays' contents -/

abbrev result11 : FVec Ideal S4x4096x512 .bf16 := queries (args m c).x (args m c).g (args m c).ng (args m c).w (args m c).qg
abbrev result12 : FVec Ideal S4x4096x512 .bf16 := keys (args m c).x (args m c).g (args m c).ng (args m c).w (args m c).kg
abbrev result13 : FVec Ideal S4x16x512x256 .bf16 := pieces (args m c).x (args m c).g (args m c).ng (args m c).w
abbrev result14 : FVec Ideal S4x512x4096 .f32 := keysT (args m c).x (args m c).g (args m c).ng (args m c).w (args m c).kg
abbrev result15 : FVec Ideal S4x512x4096 .f32 := valuesT (args m c).x (args m c).g (args m c).ng (args m c).w
abbrev result16 : FVec Ideal S4x8x4096 .f32 := forgetsT (args m c).x (args m c).g (args m c).ng (args m c).w (args m c).bf
abbrev result17 : FVec Ideal S4x4096x512 .f32 := gates (args m c).x (args m c).g (args m c).ng (args m c).w
abbrev result18 : FVec Ideal S4x4096x512 .bf16 := convs (args m c).x (args m c).g (args m c).ng (args m c).w (args m c).cw (args m c).cb
abbrev result19 : FVec Ideal S4x2x512 .f32 := history (args m c).x (args m c).g (args m c).ng (args m c).w

theorem final11 : (dats m 0 c).arrAt 11 cfg0.N = result11 m c := by
  refine (dats m 0 c).arrAt_eq_of_covers 11 _ (by decide +kernel) fun t hf y => ?_
  blk_simp
  rw [after0_11]
  obtain ⟨s, hs, h⟩ := point m c t
  simp only [part, leaves, Prod.mk.injEq] at h
  rw [h.1]
  idx_vars y
  obtain rfl : y0 = 0 := Fin.ext (by omega)
  refine (query_block (reads m c t) y1 y2).trans (Eq.trans (b := result11 m c (ix3 (batch t) (row (tile t) y1) y2)) rfl (congrArg (result11 m c) ?_))
  blk_ext [index11 t, batch, tile, row, piece]

theorem final12 : (dats m 0 c).arrAt 12 cfg0.N = result12 m c := by
  refine (dats m 0 c).arrAt_eq_of_covers 12 _ (by decide +kernel) fun t hf y => ?_
  blk_simp
  rw [after0_12]
  obtain ⟨s, hs, h⟩ := point m c t
  simp only [part, leaves, Prod.mk.injEq] at h
  rw [h.2.1]
  idx_vars y
  obtain rfl : y0 = 0 := Fin.ext (by omega)
  refine (key_block (reads m c t) y1 y2).trans (Eq.trans (b := result12 m c (ix3 (batch t) (row (tile t) y1) y2)) rfl (congrArg (result12 m c) ?_))
  blk_ext [index12 t, batch, tile, row, piece]

theorem final13 : (dats m 0 c).arrAt 13 cfg0.N = result13 m c := by
  refine (dats m 0 c).arrAt_eq_of_covers 13 _ (by decide +kernel) fun t hf y => ?_
  blk_simp
  rw [after0_13]
  obtain ⟨s, hs, h⟩ := point m c t
  simp only [part, leaves, Prod.mk.injEq] at h
  rw [h.2.2.1]
  idx_vars y
  obtain rfl : y0 = 0 := Fin.ext (by omega)
  refine (piece_block (reads m c t) y1 y2 y3).trans (Eq.trans (b := result13 m c (ix4 (batch t) (piece (tile t) y1) y2 y3)) rfl (congrArg (result13 m c) ?_))
  blk_ext [index13 t, batch, tile, row, piece]

theorem final14 : (dats m 0 c).arrAt 14 cfg0.N = result14 m c := by
  refine (dats m 0 c).arrAt_eq_of_covers 14 _ (by decide +kernel) fun t hf y => ?_
  blk_simp
  rw [after0_14]
  obtain ⟨s, hs, h⟩ := point m c t
  simp only [part, leaves, Prod.mk.injEq] at h
  rw [h.2.2.2.1]
  idx_vars y
  obtain rfl : y0 = 0 := Fin.ext (by omega)
  refine (keyT_block (reads m c t) y1 y2).trans (Eq.trans (b := result14 m c (ix3 (batch t) y1 (row (tile t) y2))) rfl (congrArg (result14 m c) ?_))
  blk_ext [index14 t, batch, tile, row, piece]

theorem final15 : (dats m 0 c).arrAt 15 cfg0.N = result15 m c := by
  refine (dats m 0 c).arrAt_eq_of_covers 15 _ (by decide +kernel) fun t hf y => ?_
  blk_simp
  rw [after0_15]
  obtain ⟨s, hs, h⟩ := point m c t
  simp only [part, leaves, Prod.mk.injEq] at h
  rw [h.2.2.2.2.1]
  idx_vars y
  obtain rfl : y0 = 0 := Fin.ext (by omega)
  refine (valueT_block (reads m c t) y1 y2).trans (Eq.trans (b := result15 m c (ix3 (batch t) y1 (row (tile t) y2))) rfl (congrArg (result15 m c) ?_))
  blk_ext [index15 t, batch, tile, row, piece]

theorem final16 : (dats m 0 c).arrAt 16 cfg0.N = result16 m c := by
  refine (dats m 0 c).arrAt_eq_of_covers 16 _ (by decide +kernel) fun t hf y => ?_
  blk_simp
  rw [after0_16]
  obtain ⟨s, hs, h⟩ := point m c t
  simp only [part, leaves, Prod.mk.injEq] at h
  rw [h.2.2.2.2.2.1]
  idx_vars y
  obtain rfl : y0 = 0 := Fin.ext (by omega)
  refine (forgetT_block (reads m c t) y1 y2).trans (Eq.trans (b := result16 m c (ix3 (batch t) y1 (row (tile t) y2))) rfl (congrArg (result16 m c) ?_))
  blk_ext [index16 t, batch, tile, row, piece]

theorem final17 : (dats m 0 c).arrAt 17 cfg0.N = result17 m c := by
  refine (dats m 0 c).arrAt_eq_of_covers 17 _ (by decide +kernel) fun t hf y => ?_
  blk_simp
  rw [after0_17]
  obtain ⟨s, hs, h⟩ := point m c t
  simp only [part, leaves, Prod.mk.injEq] at h
  rw [h.2.2.2.2.2.2.1]
  idx_vars y
  obtain rfl : y0 = 0 := Fin.ext (by omega)
  refine (gate_block (reads m c t) y1 y2).trans (Eq.trans (b := result17 m c (ix3 (batch t) (row (tile t) y1) y2)) rfl (congrArg (result17 m c) ?_))
  blk_ext [index17 t, batch, tile, row, piece]

theorem final18 : (dats m 0 c).arrAt 18 cfg0.N = result18 m c := by
  refine (dats m 0 c).arrAt_eq_of_covers 18 _ (by decide +kernel) fun t hf y => ?_
  blk_simp
  rw [after0_18]
  obtain ⟨s, hs, h⟩ := point m c t
  simp only [part, leaves, Prod.mk.injEq] at h
  rw [h.2.2.2.2.2.2.2.1]
  idx_vars y
  obtain rfl : y0 = 0 := Fin.ext (by omega)
  refine (conv_block (reads m c t) s hs y1 y2).trans (Eq.trans (b := result18 m c (ix3 (batch t) (row (tile t) y1) y2)) rfl (congrArg (result18 m c) ?_))
  blk_ext [index18 t, batch, tile, row, piece]

theorem flush19 : ∀ t : Fin cfg0.N, win0_19.flush t = true → t.val % 8 = 7 := (by decide +kernel : ∀ t : Fin grid0.N, _)

theorem final19 : (dats m 0 c).arrAt 19 cfg0.N = result19 m c := by
  refine (dats m 0 c).arrAt_eq_of_covers 19 _ (by decide +kernel) fun t hf y => ?_
  have h7 : t.val % 8 = 7 := flush19 t hf
  blk_simp
  rw [after0_19, hist_C m c t (by omega) h7]
  idx_vars y
  obtain rfl : y0 = 0 := Fin.ext (by omega)
  refine (history_block (reads m c t) ((tile_val t).trans h7) y1 y2).trans
    (Eq.trans (b := result19 m c (ix3 (batch t) y1 y2)) rfl (congrArg (result19 m c) ?_))
  blk_ext [index19 t, batch, tile, row]

end Cert.Kernel2Ideal.Input

end
-- ==== Proof.InRef.lean ====
/-
  The input projection reference's nine results are those of `Cert.In`.
-/
module

public import proofs.«01_k».proof.Proof.InMath
public import proofs.«01_k».proof.Proof.Gen.Reference2Ideal.Run

@[expose] public section

set_option maxRecDepth 16384

noncomputable section

namespace Cert.Reference2Ideal.Input

open Cert.Reference2Ideal Cert.Reference2Ideal.Gen Cert.In
open Idealize.ShloMosaic Idealize.ShloMosaic.TcCoe

/-! ## The reference's steps -/

/-- A batch of 1024 numbers, one for each of a position's, at all positions. -/
def everywhere (v : FVec Ideal S4x1x1024 .f32) : FVec Ideal S4x4096x1024 .f32 :=
  broadcastInDim S4x4096x1024 ![0, 1, 2] bcast_S4x1x1024_S4x4096x1024_0_1_2 v

/-- The modulation of the four batches. -/
def modulation (g : FVec Ideal S4x40x1x3072 .f32) : FVec Ideal S4x3072 .f32 :=
  shapeCast _ (extractStridedSlice S1x4x1x3072 ![0, 0, 0, 0] g slices_S4x40x1x3072_S1x4x1x3072_0_0_0_0)
    shapeCasts_S1x4x1x3072_S4x3072

/-- The normalised input. -/
def hiddens (x : FVec Ideal S4x4096x1024 .f32) (g : FVec Ideal S4x40x1x3072 .f32) (ng : FVec Ideal S4x1024 .f32) :
    FVec Ideal S4x4096x1024 .f32 :=
  addf
    (mulf
      (mulf
        (mulf x (broadcastInDim S4x4096x1024 ![0, 1, 2] bcast_S4x4096x1_S4x4096x1024_0_1_2
          (Host.rsqrt (addf
            (Host.divf (broadcastInDim S4x4096x1 ![0, 1] bcast_S4x4096_S4x4096x1_0_1
                (Host.reduceAdd (mulf x x) (constant S_ .f32 0x00000000#32) reducesTo_S4x4096x1024_S4x4096_d2 h_S_))
              (broadcastInDim S4x4096x1 ![] bcast_S_S4x4096x1 (constant S_ .f32 0x44800000#32)))
            (broadcastInDim S4x4096x1 ![] bcast_S_S4x4096x1 (constant S_ .f32 0x358637BD#32))))))
        (broadcastInDim S4x4096x1024 ![0, 1, 2] bcast_S1x1x1024_S4x4096x1024_0_1_2
          (broadcastInDim S1x1x1024 ![2] bcast_S1024_S1x1x1024_2
            (shapeCast _ (extractStridedSlice S1x1024 ![0, 0] ng slices_S4x1024_S1x1024_0_0) shapeCasts_S1x1024_S1024))))
      (everywhere (addf (broadcastInDim S4x1x1024 ![] bcast_S_S4x1x1024 (constant S_ .f32 0x3F800000#32))
        (broadcastInDim S4x1x1024 ![0, 2] bcast_S4x1024_S4x1x1024_0_2
          (extractStridedSlice S4x1024 ![0, 1024] (modulation g) slices_S4x3072_S4x1024_0_1024)))))
    (everywhere (broadcastInDim S4x1x1024 ![0, 2] bcast_S4x1024_S4x1x1024_0_2
      (extractStridedSlice S4x1024 ![0, 0] (modulation g) slices_S4x3072_S4x1024_0_0)))

/-- Its product with the weights. -/
def columns (x : FVec Ideal S4x4096x1024 .f32) (g : FVec Ideal S4x40x1x3072 .f32) (ng : FVec Ideal S4x1024 .f32)
    (w : FVec Ideal S4x1024x4104 .f32) : FVec Ideal S4x4096x4104 .f32 :=
  Host.dotGeneral dot_S4x4096x1024_S1024x4104_S4x4096x4104_2_0_01_1_n_n none (hiddens x g ng)
    (shapeCast _ (extractStridedSlice S1x1024x4104 ![0, 0, 0] w slices_S4x1024x4104_S1x1024x4104_0_0_0)
      shapeCasts_S1x1024x4104_S1024x4104)

/-- The normalised heads of 512 columns. -/
def heads (t : FVec Ideal S4x4096x512 .f32) (gain : FVec Ideal S4x64 .f32) : FVec Ideal S4x4096x512 .f32 :=
  let u : FVec Ideal S4x4096x8x64 .f32 := shapeCast _ t shapeCasts_S4x4096x512_S4x4096x8x64
  shapeCast _
    (mulf
      (mulf u (broadcastInDim S4x4096x8x64 ![0, 1, 2, 3] bcast_S4x4096x8x1_S4x4096x8x64_0_1_2_3
        (Host.rsqrt (addf
          (Host.divf (broadcastInDim S4x4096x8x1 ![0, 1, 2] bcast_S4x4096x8_S4x4096x8x1_0_1_2
              (Host.reduceAdd (mulf u u) (constant S_ .f32 0x00000000#32) reducesTo_S4x4096x8x64_S4x4096x8_d3 h_S_))
            (broadcastInDim S4x4096x8x1 ![] bcast_S_S4x4096x8x1 (constant S_ .f32 0x42800000#32)))
          (broadcastInDim S4x4096x8x1 ![] bcast_S_S4x4096x8x1 (constant S_ .f32 0x358637BD#32))))))
      (broadcastInDim S4x4096x8x64 ![0, 1, 2, 3] bcast_S1x1x1x64_S4x4096x8x64_0_1_2_3
        (broadcastInDim S1x1x1x64 ![3] bcast_S64_S1x1x1x64_3
          (shapeCast _ (extractStridedSlice S1x64 ![0, 0] gain slices_S4x64_S1x64_0_0) shapeCasts_S1x64_S64))))
    shapeCasts_S4x4096x8x64_S4x4096x512

/-- The logistic function's logarithm. -/
def logSigmoids (z : FVec Ideal S4x4096x8 .f32) : FVec Ideal S4x4096x8 .f32 :=
  let zero : FVec Ideal S4x4096x8 .f32 := broadcastInDim S4x4096x8 ![] bcast_S_S4x4096x8 (constant S_ .f32 0x00000000#32)
  let n : FVec Ideal S4x4096x8 .f32 := Host.negf z
  Host.negf (select (cmpf .une (subf n zero) (subf n zero)) (addf n zero)
    (addf (maximumf n zero) (Host.log1p (Host.exp (Host.negf (Host.absf (subf n zero)))))))

/-- A number times its logistic function. -/
def silus (z : FVec Ideal S4x4096x512 .f32) : FVec Ideal S4x4096x512 .f32 :=
  mulf z (Host.divf (broadcastInDim S4x4096x512 ![] bcast_S_S4x4096x512 (constant S_ .f32 0x3F800000#32))
    (addf (broadcastInDim S4x4096x512 ![] bcast_S_S4x4096x512 (constant S_ .f32 0x3F800000#32)) (Host.exp (Host.negf z))))

/-- The convolution's inputs behind two zero ones. -/
def padded (c u : FVec Ideal S4x4096x512 .f32) : FVec Ideal S4x4098x512 .f32 :=
  concatenate S4x4098x512 1
    [⟨S4x2x512, (broadcastInDim S4x2x512 ![] bcast_S_S4x2x512 (constant S_ .f32 0x00000000#32))⟩, ⟨S4x4096x512, (mulf c u)⟩]
    concatenates_S4x2x512_S4x4096x512_S4x4098x512_d1

/-- A row of 512 numbers everywhere. -/
def rows (v : FVec Ideal S512 .f32) : FVec Ideal S4x4096x512 .f32 :=
  broadcastInDim S4x4096x512 ![0, 1, 2] bcast_S1x1x512_S4x4096x512_0_1_2 (broadcastInDim S1x1x512 ![2] bcast_S512_S1x1x512_2 v)

/-- The convolution of the padded inputs. -/
def convolved (p : FVec Ideal S4x4098x512 .f32) (cw : FVec Ideal S4x3x512 .f32) (cb : FVec Ideal S4x512 .f32) :
    FVec Ideal S4x4096x512 .f32 :=
  addf
    (addf
      (addf (rows (shapeCast _ (extractStridedSlice S1x512 ![0, 0] cb slices_S4x512_S1x512_0_0) shapeCasts_S1x512_S512))
        (mulf (extractStridedSlice S4x4096x512 ![0, 0, 0] p slices_S4x4098x512_S4x4096x512_0_0_0)
          (rows (shapeCast _ (extractStridedSlice S1x1x512 ![0, 0, 0] cw slices_S4x3x512_S1x1x512_0_0_0) shapeCasts_S1x1x512_S512))))
      (mulf (extractStridedSlice S4x4096x512 ![0, 1, 0] p slices_S4x4098x512_S4x4096x512_0_1_0)
        (rows (shapeCast _ (extractStridedSlice S1x1x512 ![0, 1, 0] cw slices_S4x3x512_S1x1x512_0_1_0) shapeCasts_S1x1x512_S512))))
    (mulf (extractStridedSlice S4x4096x512 ![0, 2, 0] p slices_S4x4098x512_S4x4096x512_0_2_0)
      (rows (shapeCast _ (extractStridedSlice S1x1x512 ![0, 2, 0] cw slices_S4x3x512_S1x1x512_0_2_0) shapeCasts_S1x1x512_S512)))

/-! ## The steps at an index -/

variable (x : FVec Ideal S4x4096x1024 .f32) (g : FVec Ideal S4x40x1x3072 .f32) (ng : FVec Ideal S4x1024 .f32)
  (w : FVec Ideal S4x1024x4104 .f32) (bf : FVec Ideal S4x8 .f32) (gain qg kg : FVec Ideal S4x64 .f32)
  (cw : FVec Ideal S4x3x512 .f32) (cb : FVec Ideal S4x512 .f32)

theorem modulation_at (b : Fin 4) (e : Fin 3072) : modulation g (ix2 b e) = g (ix4 0 (slot b) 0 e) := by
  pointwise [modulation]
  rfl

theorem hiddens_at (b : Fin 4) (p : Fin 4096) (d : Fin 1024) : hiddens x g ng (ix3 b p d) = hidden x g ng b p d := by
  have e1 (hx) : (⟨1024 + d.val, hx⟩ : Fin 3072) = scaleAt d := rfl
  have e2 (hx) : (⟨d.val, hx⟩ : Fin 3072) = shiftAt d := rfl
  unfold hiddens
  pointwise [everywhere]
  simp only [modulation_at, e1, e2]
  rfl

theorem columns_at (b : Fin 4) (p : Fin 4096) (c : Fin 4104) : columns x g ng w (ix3 b p c) = column x g ng w b p c := by
  unfold columns
  pointwise []
  simp only [hiddens_at]
  rfl

theorem silus_at (z : FVec Ideal S4x4096x512 .f32) (b : Fin 4) (p : Fin 4096) (l : Fin 512) :
    silus z (ix3 b p l) = silu (z (ix3 b p l)) := by
  pointwise [silus]
  rw [silu, zero_sub]

theorem heads_at (t : FVec Ideal S4x4096x512 .f32) (b : Fin 4) (p : Fin 4096) (h : Fin 8) (d : Fin 64) :
    heads t gain (ix3 b p (col h d)) = headNorm (fun e => t (ix3 b p (col h e))) (gain (ix2 0 d)) d := by
  have hc : (col h d).val = 64 * h.val + d.val := rfl
  have e1 (e : Fin 64) (hx) : (⟨(col h d).val / 64 * 64 + e.val, hx⟩ : Fin 512) = col h e :=
    Fin.ext (by simp only [hc]; simp only [col]; omega)
  have e2 (hx) : (⟨(col h d).val % 64, hx⟩ : Fin 64) = d := Fin.ext (by simp only [hc]; omega)
  pointwise [heads]
  simp only [e1, e2]
  rfl

theorem logSigmoids_at (z : FVec Ideal S4x4096x8 .f32) (b : Fin 4) (p : Fin 4096) (h : Fin 8) :
    logSigmoids z (ix3 b p h) = logSigmoid (z (ix3 b p h)) := by
  have ha : FloatOps.absf (F := Ideal) (φ := .f32) (-z (ix3 b p h)) = max (-z (ix3 b p h)) (z (ix3 b p h)) :=
    congrArg (max _) (neg_neg _)
  pointwise [logSigmoids]
  rw [if_neg (by simp), ha, Ideal.log1p, logSigmoid_eq]

theorem padded_at (c u : FVec Ideal S4x4096x512 .f32) (b : Fin 4) (p : Fin 4098) (l : Fin 512) :
    padded c u (ix3 b p l) = if h : 2 ≤ p.val then c (ix3 b ⟨p - 2, by omega⟩ l) * u (ix3 b ⟨p - 2, by omega⟩ l) else 0 := by
  pointwise [padded]
  by_cases h : p.val < 2
  · rw [dif_pos h, dif_neg (by omega)]
  · rw [dif_neg h, dif_pos (by omega)]

theorem convolved_at (q : FVec Ideal S4x4098x512 .f32) (b : Fin 4) (p : Fin 4096) (l : Fin 512) :
    convolved q cw cb (ix3 b p l) = cb (ix2 0 l) + q (ix3 b ⟨p, by omega⟩ l) * cw (ix3 0 0 l)
      + q (ix3 b ⟨1 + p, by omega⟩ l) * cw (ix3 0 1 l) + q (ix3 b ⟨2 + p, by omega⟩ l) * cw (ix3 0 2 l) := by
  pointwise [convolved, rows]

/-! ## The nine results -/

/-- 512 columns from column `o` on. -/
abbrev group (o : ℕ) (h : S4x4096x4104.Slices ![0, 0, o] S4x4096x512) : FVec Ideal S4x4096x512 .f32 :=
  extractStridedSlice S4x4096x512 ![0, 0, o] (columns x g ng w) h

theorem group_at (o : ℕ) (h : S4x4096x4104.Slices ![0, 0, o] S4x4096x512) (ho : o + 512 ≤ 4104) (b : Fin 4) (p : Fin 4096)
    (l : Fin 512) : group x g ng w o h (ix3 b p l) = column x g ng w b p ⟨o + l, by omega⟩ := by
  rw [← columns_at]
  pointwise [group]

theorem heads_group (o : ℕ) (h : S4x4096x4104.Slices ![0, 0, o] S4x4096x512) (ho : o + 512 ≤ 4104)
    (f : Fin 512 → Fin 4104) (hf : ∀ l : Fin 512, f l = ⟨o + l, by omega⟩) (b : Fin 4) (p : Fin 4096) (l : Fin 512) :
    heads (group x g ng w o h) gain (ix3 b p l) = normed x g ng w gain b p f (headOf l) (numOf l) := by
  obtain rfl : f = fun l => ⟨o + l, by omega⟩ := funext hf
  conv_lhs => rw [col_of l]
  rw [heads_at]
  simp only [group_at x g ng w o h ho]
  rfl

theorem queries_eq :
    truncf .bf16 (mulf (heads (group x g ng w 0 slices_S4x4096x4104_S4x4096x512_0_0_0) qg)
      (broadcastInDim S4x4096x512 ![] bcast_S_S4x4096x512 (constant S_ .f32 0x3E38AA3B#32))) bitsLt_bf16_f32
      = queries x g ng w qg := by
  funext i
  idx_vars i
  pointwise []
  rw [heads_group x g ng w qg 0 _ (by omega) qCol (fun l => Fin.ext (by simp only [qCol]; omega))]
  rfl

theorem keys_eq : truncf .bf16 (heads (group x g ng w 512 slices_S4x4096x4104_S4x4096x512_0_0_512) kg) bitsLt_bf16_f32
    = keys x g ng w kg := by
  funext i
  idx_vars i
  pointwise []
  rw [heads_group x g ng w kg 512 _ (by omega) kCol fun l => rfl]
  rfl

theorem pieces_eq :
    truncf .bf16 (transpose S4x16x512x256 [0, 1, 3, 2]
      (shapeCast _ (group x g ng w 1024 slices_S4x4096x4104_S4x4096x512_0_0_1024) shapeCasts_S4x4096x512_S4x16x256x512)
      transposes_S4x16x256x512_S4x16x512x256_0_1_3_2) bitsLt_bf16_f32 = pieces x g ng w := by
  funext i
  idx_vars i
  pointwise []
  rw [columns_at]
  show _ = column x g ng w i0 (inPiece i1 i3) (vCol i2)
  rw [show inPiece i1 i3 = ⟨i1 * 256 + i3, by omega⟩ from Fin.ext (by simp only [inPiece]; omega)]
  rfl

theorem keysT_eq :
    transpose S4x512x4096 [0, 2, 1] (heads (group x g ng w 512 slices_S4x4096x4104_S4x4096x512_0_0_512) kg)
      transposes_S4x4096x512_S4x512x4096_0_2_1 = keysT x g ng w kg := by
  funext i
  idx_vars i
  pointwise []
  rw [heads_group x g ng w kg 512 _ (by omega) kCol fun l => rfl]
  rfl

theorem valuesT_eq :
    transpose S4x512x4096 [0, 2, 1] (group x g ng w 1024 slices_S4x4096x4104_S4x4096x512_0_0_1024)
      transposes_S4x4096x512_S4x512x4096_0_2_1 = valuesT x g ng w := by
  funext i
  idx_vars i
  pointwise [columns_at]
  rfl

theorem forgetsT_eq :
    transpose S4x8x4096 [0, 2, 1]
      (logSigmoids (addf (extractStridedSlice S4x4096x8 ![0, 0, 2048] (columns x g ng w) slices_S4x4096x4104_S4x4096x8_0_0_2048)
        (broadcastInDim S4x4096x8 ![0, 1, 2] bcast_S1x1x8_S4x4096x8_0_1_2 (broadcastInDim S1x1x8 ![2] bcast_S8_S1x1x8_2
          (shapeCast _ (extractStridedSlice S1x8 ![0, 0] bf slices_S4x8_S1x8_0_0) shapeCasts_S1x8_S8)))))
      transposes_S4x4096x8_S4x8x4096_0_2_1 = forgetsT x g ng w bf := by
  funext i
  idx_vars i
  pointwise []
  rw [logSigmoids_at]
  pointwise []
  rw [columns_at]
  rfl

theorem gates_eq : silus (group x g ng w 1536 slices_S4x4096x4104_S4x4096x512_0_0_1536) = gates x g ng w := by
  funext i
  idx_vars i
  rw [silus_at, group_at x g ng w 1536 _ (by omega)]
  rfl

/-- The padded inputs of the convolution. -/
abbrev inputs : FVec Ideal S4x4098x512 .f32 :=
  padded (group x g ng w 2568 slices_S4x4096x4104_S4x4096x512_0_0_2568) (group x g ng w 3080 slices_S4x4096x4104_S4x4096x512_0_0_3080)

theorem inputs_at (b : Fin 4) (j : ℕ) (hj : j ≤ 2) (p : Fin 4096) (l : Fin 512) (q : Fin 4098) (hq : q.val + j = p.val + 2) :
    inputs x g ng w (ix3 b q l) = before x g ng w b p j l := by
  unfold inputs before
  rw [padded_at]
  by_cases h : j ≤ p.val
  · rw [dif_pos (by omega), if_pos h, group_at x g ng w 2568 _ (by omega), group_at x g ng w 3080 _ (by omega)]
    exact congrArg (fun p => gated x g ng w b p l) (Fin.ext (by show q.val - 2 = p.val - j; omega))
  · rw [dif_neg (by omega), if_neg h]

theorem before_zero (b : Fin 4) (p : Fin 4096) (l : Fin 512) : before x g ng w b p 0 l = gated x g ng w b p l := if_pos (Nat.zero_le _)

theorem convs_eq :
    truncf .bf16 (mulf (mulf (group x g ng w 2056 slices_S4x4096x4104_S4x4096x512_0_0_2056) (convolved (inputs x g ng w) cw cb))
      (silus (group x g ng w 3592 slices_S4x4096x4104_S4x4096x512_0_0_3592))) bitsLt_bf16_f32 = convs x g ng w cw cb := by
  funext i
  idx_vars i
  pointwise []
  rw [silus_at, convolved_at, group_at x g ng w 3592 _ (by omega), inputs_at x g ng w i0 2 (by omega) i1 i2 _ rfl,
    inputs_at x g ng w i0 1 (by omega) i1 i2 _ (by show 1 + i1.val + 1 = _; omega),
    inputs_at x g ng w i0 0 (by omega) i1 i2 _ (by show 2 + i1.val + 0 = _; omega), before_zero]
  rw [columns_at]
  rfl

theorem history_eq :
    extractStridedSlice S4x2x512 ![0, 4096, 0] (inputs x g ng w) slices_S4x4098x512_S4x2x512_0_4096_0 = history x g ng w := by
  funext i
  idx_vars i
  have h := inputs_at x g ng w i0 0 (by omega) (lastTwo i1) i2 ⟨4096 + i1, by omega⟩ (by show 4096 + i1.val + 0 = 4094 + i1.val + 2; omega)
  rw [before_zero] at h
  refine Eq.trans ?_ (h.trans rfl)
  pointwise []

/-! ## The reference's own terms -/

section terms

variable (m : (ℓ : Loc nD τ sig) → Buf (Elt Ideal) ℓ) (c : Dev nD)

theorem res0 : Value.res_main_v112 m c = queries (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg5)) := by
  refine Eq.trans ?_ (queries_eq _ _ _ _ _)
  unfold Value.res_main_v112
  rfl

theorem res1 : Value.res_main_v116 m c = keys (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg6)) := by
  refine Eq.trans ?_ (keys_eq _ _ _ _ _)
  unfold Value.res_main_v116
  rfl

theorem res3 : Value.res_main_v117 m c = keysT (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg6)) := by
  refine Eq.trans ?_ (keysT_eq _ _ _ _ _)
  unfold Value.res_main_v117
  rfl

theorem res5 : Value.res_main_v119 m c = forgetsT (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := by
  refine Eq.trans ?_ (forgetsT_eq _ _ _ _ _)
  unfold Value.res_main_v119
  rfl

theorem res6 : Value.res_main_v120 m c = gates (m ((c.tc : Thread nD τ).loc main_arg0)) (m ((c.tc : Thread nD τ).loc main_arg1)) (m ((c.tc : Thread nD τ).loc main_arg2))
    (m ((c.tc : Thread nD τ).loc main_arg3)) := by
  refine Eq.trans ?_ (gates_eq _ _ _ _)
  unfold Value.res_main_v120
  rfl

theorem res7 : Value.res_main_v121 m c = convs (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg7)) (m ((c.tc : Thread nD τ).loc main_arg8)) := by
  refine Eq.trans ?_ (convs_eq _ _ _ _ _ _)
  unfold Value.res_main_v121
  rfl

theorem res8 : Value.res_main_v122 m c = history (m ((c.tc : Thread nD τ).loc main_arg0)) (m ((c.tc : Thread nD τ).loc main_arg1)) (m ((c.tc : Thread nD τ).loc main_arg2))
    (m ((c.tc : Thread nD τ).loc main_arg3)) := by
  refine Eq.trans ?_ (history_eq _ _ _ _)
  unfold Value.res_main_v122
  rfl

end terms

end Cert.Reference2Ideal.Input

end
-- ==== Proof.OutProject.lean ====
/-
  The output projection as a function of its argument arrays: what both programs of the third pair are shown to compute.

  A row of the result is the row of the residual stream plus, column by column, the batch's gate times the row of the
  two mixers' outputs (512 numbers each) under the layer's weight.
-/
module

public import Idealize.ShloMosaic.Lib.Pointwise

@[expose] public section

noncomputable section

namespace Cert.Out

open Idealize.ShloMosaic

/-- Row `k` of the weight's upper and of its lower half. -/
def upper (k : Fin 512) : Fin 1024 := ⟨k, by omega⟩
def lower (k : Fin 512) : Fin 1024 := ⟨512 + k, by omega⟩
/-- Column `d` of the gate, the third 1024 numbers of the modulation. -/
def gate (d : Fin 1024) : Fin 3072 := ⟨2048 + d, by omega⟩

/-- The batch's modulation, the first 4 of 40. -/
def slot (b : Fin 4) : Fin 40 := ⟨b, by omega⟩

variable (x : FVec Ideal ⟨3, ![4, 4096, 1024]⟩ .f32) (oa oc : FVec Ideal ⟨3, ![4, 4096, 512]⟩ .bf16)
  (w : FVec Ideal ⟨3, ![4, 1024, 1024]⟩ .f32) (g : FVec Ideal ⟨4, ![4, 40, 1, 3072]⟩ .f32)

/-- One element of the result. -/
def element (b : Fin 4) (p : Fin 4096) (d : Fin 1024) : EReal :=
  x (ix3 b p d) + g (ix4 0 (slot b) 0 (gate d))
    * (∑ k : Fin 512, oa (ix3 b p k) * w (ix3 0 (upper k) d) + ∑ k : Fin 512, oc (ix3 b p k) * w (ix3 0 (lower k) d))

/-- The result array. -/
def project : FVec Ideal ⟨3, ![4, 4096, 1024]⟩ .f32 := fun i => element x oa oc w g (i 0) (i 1) (i 2)

end Cert.Out

end
-- ==== Proof.OutKernel.lean ====
/-
  The output projection kernel's result array: every grid point writes its 1024 rows of `Out.project`.
-/
module

public import proofs.«01_k».proof.Proof.OutProject
public import proofs.«01_k».proof.Proof.Gen.Kernel3Ideal.Value
public import Idealize.ShloMosaic.Lib.Pipeline.ValueKit

@[expose] public section

set_option maxRecDepth 16384

noncomputable section

namespace Cert.Kernel3Ideal.Project

open Cert.Kernel3Ideal Cert.Kernel3Ideal.Gen Cert.Out
open Idealize.ShloMosaic Idealize.ShloMosaic.TcCoe

theorem hz : (![0, 0, 0] : Fin 3 → Nat) = fun _ => 0 := funext fun a => by fin_cases a <;> rfl

/-- The block a point leaves, as a term of its input blocks. -/
theorem block_eq (x0 x1 x2 x3 x4) : out0_5 (F := Ideal) x0 x1 x2 x3 x4
    = k0_pay1 (View.ld x1 r0_0) (View.ld x3 r0_1) (View.ld x2 r0_0) (View.ld x3 r0_2) (View.ld x0 r0_3)
        (View.ld x4 r0_4) := by
  unfold out0_5 r0_3
  exact View.canon_unit_zero hz _ _

/-- That block at an index. -/
theorem block_at (x0 : Vec Ideal S1x1024x1024 .f32) (x1 x2 : Vec Ideal S1x1024x512 .bf16)
    (x3 : Vec Ideal S1x1024x1024 .bf16) (x4 : Vec Ideal S1x1x1x1024 .f32) (r d : Fin 1024) :
    out0_5 x0 x1 x2 x3 x4 (ix3 0 r d) = x0 (ix3 0 r d) + x4 (ix4 0 0 0 d)
      * (∑ k : Fin 512, x1 (ix3 0 r k) * x3 (ix3 0 (upper k) d) + ∑ k : Fin 512, x2 (ix3 0 r k) * x3 (ix3 0 (lower k) d)) := by
  have e1 (k : Fin 512) (hx) : (⟨k.val, hx⟩ : Fin 1024) = upper k := rfl
  have e2 (k : Fin 512) (hx) : (⟨512 + k.val, hx⟩ : Fin 1024) = lower k := rfl
  rw [block_eq]
  pointwise [k0_pay1, r0_0, r0_1, r0_2, r0_3, r0_4]
  rfl

/-! ## Which block each window reads at a grid point (batch, 1024 rows) -/

theorem index0 : ∀ t : Fin cfg0.N, win0_0.index t = ![(grid0.coords t 0).val, (grid0.coords t 1).val, 0] :=
  (by decide +kernel : ∀ t : Fin grid0.N, _)
theorem index1 : ∀ t : Fin cfg0.N, win0_1.index t = ![(grid0.coords t 0).val, (grid0.coords t 1).val, 0] :=
  (by decide +kernel : ∀ t : Fin grid0.N, _)
theorem index2 : ∀ t : Fin cfg0.N, win0_2.index t = ![(grid0.coords t 0).val, (grid0.coords t 1).val, 0] :=
  (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![0, (grid0.coords t 0).val, 0, 2] :=
  (by decide +kernel : ∀ t : Fin grid0.N, _)
theorem index5 : ∀ t : Fin cfg0.N, win0_5.index t = ![(grid0.coords t 0).val, (grid0.coords t 1).val, 0] :=
  (by decide +kernel : ∀ t : Fin grid0.N, _)

variable (m : (ℓ : Loc nD τ sig) → Buf (Elt Ideal) ℓ) (c : Dev nD) (t : Fin cfg0.N)

/-- The batch and the rows of a point's block. -/
def batch : Fin 4 := grid0.coords t 0
def row (r : Fin 1024) : Fin 4096 := ⟨1024 * (grid0.coords t 1).val + r, by have : (grid0.coords t 1).val < 4 := (grid0.coords t 1).isLt; omega⟩

/-- The residual stream's block, -/
theorem read0 (r d : Fin 1024) : (iblk m c 0 t : FVec Ideal S1x1024x1024 .f32) (ix3 0 r d)
    = m ((c : Thread nD τ).loc main_arg0) (ix3 (batch t) (row t r) d) := by
  blk_ext! [iblk, V_main_arg0, index0 t, batch, row]

/-- the two mixers' outputs', -/
theorem read1 (r : Fin 1024) (k : Fin 512) : (iblk m c 1 t : FVec Ideal S1x1024x512 .bf16) (ix3 0 r k)
    = m ((c : Thread nD τ).loc main_arg1) (ix3 (batch t) (row t r) k) := by
  blk_ext! [iblk, V_main_arg1, index1 t, batch, row]
theorem read2 (r : Fin 1024) (k : Fin 512) : (iblk m c 2 t : FVec Ideal S1x1024x512 .bf16) (ix3 0 r k)
    = m ((c : Thread nD τ).loc main_arg2) (ix3 (batch t) (row t r) k) := by
  blk_ext! [iblk, V_main_arg2, index2 t, batch, row]

/-- the weight's, which the host narrows first, -/
theorem read3 (k d : Fin 1024) : (iblk m c 3 t : FVec Ideal S1x1024x1024 .bf16) (ix3 0 k d)
    = m ((c : Thread nD τ).loc main_arg3) (ix3 0 k d) := by
  blk_ext! [iblk, V, index3 t, batch, row]

/-- and the gate's. -/
theorem read4 (d : Fin 1024) : (iblk m c 4 t : FVec Ideal S1x1x1x1024 .f32) (ix4 0 0 0 d)
    = m ((c : Thread nD τ).loc main_arg4) (ix4 0 (slot (batch t)) 0 (gate d)) := by
  blk_ext! [iblk, V_main_arg4, index4 t, batch, row, gate, slot]

/-- The result array's contents. -/
abbrev result : FVec Ideal S4x4096x1024 .f32 :=
  project (m ((c : Thread nD τ).loc main_arg0)) (m ((c : Thread nD τ).loc main_arg1))
    (m ((c : Thread nD τ).loc main_arg2)) (m ((c : Thread nD τ).loc main_arg3)) (m ((c : Thread nD τ).loc main_arg4))

/-- The kernel's result array. -/
theorem final : (dats m 0 c).arrAt 5 cfg0.N = result m c := by
  refine (dats m 0 c).arrAt_eq_of_covers 5 _ (by decide +kernel) fun t hf y => ?_
  blk_simp
  rw [after0_5]
  idx_vars y
  obtain rfl : y0 = 0 := Fin.ext (by omega)
  rw [block_at]
  simp only [read0, read1, read2, read3, read4]
  refine Eq.trans (b := result m c (ix3 (batch t) (row t y1) y2)) rfl (congrArg (result m c) ?_)
  blk_ext [index5 t, batch, row]

end Cert.Kernel3Ideal.Project

end
-- ==== Proof.OutRef.lean ====
/-
  The output projection reference's result is `Out.project`.
-/
module

public import proofs.«01_k».proof.Proof.OutProject
public import proofs.«01_k».proof.Proof.Gen.Reference3Ideal.Run

@[expose] public section

set_option maxRecDepth 16384

noncomputable section

namespace Cert.Reference3Ideal.Project

open Cert.Reference3Ideal Cert.Reference3Ideal.Gen Cert.Out
open Idealize.ShloMosaic Idealize.ShloMosaic.TcCoe

variable (x : FVec Ideal S4x4096x1024 .f32) (oa oc : FVec Ideal S4x4096x512 .bf16) (w : FVec Ideal S4x1024x1024 .f32)
  (g : FVec Ideal S4x40x1x3072 .f32)

/-- The two mixers' outputs beside each other. -/
def both : FVec Ideal S4x4096x1024 .f32 :=
  concatenate S4x4096x1024 2 [⟨S4x4096x512, (extf .f32 oa bitsLt_bf16_f32)⟩, ⟨S4x4096x512, (extf .f32 oc bitsLt_bf16_f32)⟩]
    concatenates_S4x4096x512_S4x4096x512_S4x4096x1024_d2

/-- The reference's result. -/
def value : FVec Ideal S4x4096x1024 .f32 :=
  addf x (mulf (broadcastInDim S4x4096x1024 ![0, 1, 2] bcast_S4x1x1024_S4x4096x1024_0_1_2
      (broadcastInDim S4x1x1024 ![0, 2] bcast_S4x1024_S4x1x1024_0_2
        (shapeCast _ (extractStridedSlice S1x4x1x1024 ![0, 0, 0, 2048] g slices_S4x40x1x3072_S1x4x1x1024_0_0_0_2048)
          shapeCasts_S1x4x1x1024_S4x1024)))
    (Host.dotGeneral dot_S4x4096x1024_S1024x1024_S4x4096x1024_2_0_01_1_n_n none (both oa oc)
      (shapeCast _ (extractStridedSlice S1x1024x1024 ![0, 0, 0] w slices_S4x1024x1024_S1x1024x1024_0_0_0)
        shapeCasts_S1x1024x1024_S1024x1024)))

theorem both_upper (b : Fin 4) (p : Fin 4096) (k : Fin 512) : both oa oc (ix3 b p (upper k)) = oa (ix3 b p k) := by
  have h : (upper k).val < 512 := k.isLt
  pointwise [both]
  simp [h]
  rfl

theorem both_lower (b : Fin 4) (p : Fin 4096) (k : Fin 512) : both oa oc (ix3 b p (lower k)) = oc (ix3 b p k) := by
  have h : ¬ (lower k).val < 512 := by simp [lower]
  pointwise [both]
  simp [h]
  congr 1
  simp [lower]

theorem value_at (b : Fin 4) (p : Fin 4096) (d : Fin 1024) : value x oa oc w g (ix3 b p d)
    = x (ix3 b p d) + g (ix4 0 (slot b) 0 (gate d))
      * ∑ k : Fin 1024, both oa oc (ix3 b p k) * w (ix3 0 k d) := by
  pointwise [value]
  rfl

theorem value_eq : value x oa oc w g = project x oa oc w g := by
  funext i
  idx_vars i
  rw [value_at, Fin.sum_univ_two_halves 512 512 rfl]
  show _ = element x oa oc w g i0 i1 i2
  unfold element
  rw [← Finset.sum_congr rfl fun k _ => congrArg (· * w (ix3 0 (upper k) i2)) (both_upper oa oc i0 i1 k),
    ← Finset.sum_congr rfl fun k _ => congrArg (· * w (ix3 0 (lower k) i2)) (both_lower oa oc i0 i1 k)]
  rfl

end Cert.Reference3Ideal.Project

end
-- ==== Proof.RefValue.lean ====
/-
  The reference's result at an index: the softmax of the masked row of natural-base scores, contracted with the values,
  times the gate.
-/
module

public import proofs.«01_k».proof.Proof.Numbers
public import proofs.«01_k».proof.Proof.Attend
public import proofs.«01_k».proof.Proof.Gen.ReferenceIdeal.Run

@[expose] public section

set_option maxRecDepth 16384

noncomputable section

namespace Cert.ReferenceIdeal.Attn

open Cert.ReferenceIdeal Cert.ReferenceIdeal.Gen Cert.ReferenceIdeal.Value Cert.Softmax Cert.Attend Cert.Numbers
open Idealize.ShloMosaic Idealize.ShloMosaic.TcCoe

/-- The maximum over the last of four axes, read at an index: the maximum over that axis' entries. -/
theorem reduce_max {n0 n1 n2 n3 : ℕ} {u : Shape} (x : FVec Ideal ⟨4, ![n0, n1, n2, n3]⟩ .f32) (init : FVec Ideal u .f32)
    (hr : (⟨4, ![n0, n1, n2, n3]⟩ : Shape).ReducesTo [3] ⟨3, ![n0, n1, n2]⟩) (hu : 0 < u.numel)
    (a : Fin n0) (b : Fin n1) (c : Fin n2) :
    Host.reduce FloatOps.maximumf x init hr hu (ix3 a b c)
      = Finset.univ.fold max (init (Shape.Idx.first hu)) fun d : Fin n3 => x (ix4 a b c d) := by
  pointwise

section row

variable (q k : FVec Ideal Rows .bf16) (f : FVec Ideal Heads .f32) (b : Fin 4) (h : Fin 8) (p : Fin 4096)

/-- The masked score of key `j` against query `p`, as the reference spells it. -/
def logit (j : Fin 4096) : EReal :=
  Scalar.select (IntOp.cmpi .sle (BitVec.ofNat 32 j) (BitVec.ofNat 32 p))
    ((∑ d : Fin 64, q (ix3 b p (col h d)) * (Ideal.log (Ideal.ofBits .f32 0x40000000#32) * Ideal.ofBits .f32 0x41000000#32)
          * k (ix3 b j (col h d))) * Ideal.ofBits .f32 0x3E000000#32
      + (f (ix3 b h p) * Ideal.log (Ideal.ofBits .f32 0x40000000#32)
          - f (ix3 b h j) * Ideal.log (Ideal.ofBits .f32 0x40000000#32)))
    (Ideal.ofBits .f32 0xFF800000#32)

/-- The row's largest score. -/
def top : EReal :=
  max (Ideal.ofBits .f32 0xFF800000#32) (Finset.univ.fold max (Ideal.ofBits .f32 0xFF800000#32) (logit q k f b h p))

end row

/-! ## The reference's arrays, step by step -/

section steps

variable (q k : FVec Ideal S4x4096x512 .bf16) (vt : FVec Ideal S4x16x512x256 .bf16) (f : FVec Ideal S4x8x4096 .f32)
  (z : FVec Ideal S4x4096x512 .f32)

/-- The natural logarithm of two. -/
def ln2 : FVec Ideal S_ .f32 := Host.log (constant S_ .f32 0x40000000#32)

/-- The products of queries and keys. -/
def products : FVec Ideal S4x8x4096x4096 .f32 :=
  Host.dotGeneral dot_S4x4096x8x64_S4x4096x8x64_S4x8x4096x4096_3_3_1_1_02_02 none
    (shapeCast _ (mulf (extf .f32 q bitsLt_bf16_f32)
      (broadcastInDim S4x4096x512 ![] bcast_S_S4x4096x512 (mulf ln2 (constant S_ .f32 0x41000000#32))))
      shapeCasts_S4x4096x512_S4x4096x8x64)
    (shapeCast _ (extf .f32 k bitsLt_bf16_f32) shapeCasts_S4x4096x512_S4x4096x8x64)

/-- The log-forgets in natural base. -/
def forgets : FVec Ideal S4x8x4096 .f32 :=
  transpose S4x8x4096 [0, 2, 1] (transpose S4x4096x8 [0, 2, 1]
    (mulf f (broadcastInDim S4x8x4096 ![] bcast_S_S4x8x4096 ln2)) transposes_S4x8x4096_S4x4096x8_0_2_1)
    transposes_S4x4096x8_S4x8x4096_0_2_1

/-- The scores before the mask. -/
def scores : FVec Ideal S4x8x4096x4096 .f32 :=
  addf (mulf (products q k) (broadcastInDim S4x8x4096x4096 ![] bcast_S_S4x8x4096x4096 (constant S_ .f32 0x3E000000#32)))
    (subf
      (broadcastInDim S4x8x4096x4096 ![0, 1, 2, 3] bcast_S4x8x4096x1_S4x8x4096x4096_0_1_2_3
        (broadcastInDim S4x8x4096x1 ![0, 1, 2] bcast_S4x8x4096_S4x8x4096x1_0_1_2 (forgets f)))
      (broadcastInDim S4x8x4096x4096 ![0, 1, 2, 3] bcast_S4x8x1x4096_S4x8x4096x4096_0_1_2_3
        (broadcastInDim S4x8x1x4096 ![0, 1, 3] bcast_S4x8x4096_S4x8x1x4096_0_1_3 (forgets f))))

/-- The masked scores. -/
def masked : FVec Ideal S4x8x4096x4096 .f32 :=
  select (broadcastInDim S4x8x4096x4096 ![2, 3] bcast_S4096x4096_S4x8x4096x4096_2_3
      (cmpi .sle (broadcastInDim S4096x4096 ![0, 1] bcast_S1x4096_S4096x4096_0_1
          (broadcastInDim S1x4096 ![1] bcast_S4096_S1x4096_1 (iotaInDim S4096 32 0)))
        (broadcastInDim S4096x4096 ![0, 1] bcast_S4096x1_S4096x4096_0_1
          (broadcastInDim S4096x1 ![0] bcast_S4096_S4096x1_0 (iotaInDim S4096 32 0)))))
    (scores q k f)
    (broadcastInDim S4x8x4096x4096 ![] bcast_S_S4x8x4096x4096 (id (constant S_ .f32 0xFF800000#32)))

/-- The largest entry of each row. -/
def tops (s : FVec Ideal S4x8x4096x4096 .f32) : FVec Ideal S4x8x4096 .f32 :=
  maximumf (broadcastInDim S4x8x4096 ![] bcast_S_S4x8x4096 (constant S_ .f32 0xFF800000#32))
    (Host.reduce FloatOps.maximumf s (constant S_ .f32 0xFF800000#32) reducesTo_S4x8x4096x4096_S4x8x4096_d3 h_S_)

/-- The exponentials of the entries less their row's largest. -/
def weights (s : FVec Ideal S4x8x4096x4096 .f32) : FVec Ideal S4x8x4096x4096 .f32 :=
  Host.exp (subf s (broadcastInDim S4x8x4096x4096 ![0, 1, 2, 3] bcast_S4x8x4096x1_S4x8x4096x4096_0_1_2_3
    (broadcastInDim S4x8x4096x1 ![0, 1, 2] bcast_S4x8x4096_S4x8x4096x1_0_1_2 (tops s))))

/-- Weights over the sum of their row. -/
def shares (w : FVec Ideal S4x8x4096x4096 .f32) : FVec Ideal S4x8x4096x4096 .f32 :=
  Host.divf w (broadcastInDim S4x8x4096x4096 ![0, 1, 2, 3] bcast_S4x8x4096x1_S4x8x4096x4096_0_1_2_3
    (broadcastInDim S4x8x4096x1 ![0, 1, 2] bcast_S4x8x4096_S4x8x4096x1_0_1_2
      (Host.reduceAdd w (constant S_ .f32 0x00000000#32) reducesTo_S4x8x4096x4096_S4x8x4096_d3 h_S_)))

/-- The values under the shares. -/
def mixed (s : FVec Ideal S4x8x4096x4096 .f32) : FVec Ideal S4x8x64x4096 .f32 :=
  Host.dotGeneral dot_S4x4096x8x64_S4x8x4096x4096_S4x8x64x4096_1_3_3_2_02_01 none
    (shapeCast _ (transpose S4x16x256x512 [0, 1, 3, 2] (extf .f32 vt bitsLt_bf16_f32)
      transposes_S4x16x512x256_S4x16x256x512_0_1_3_2) shapeCasts_S4x16x256x512_S4x4096x8x64) s

/-- The gated result. -/
def gated (o : FVec Ideal S4x8x64x4096 .f32) : FVec Ideal S4x4096x512 .bf16 :=
  truncf .bf16 (mulf (shapeCast _ (transpose S4x4096x8x64 [0, 3, 1, 2] o transposes_S4x8x64x4096_S4x4096x8x64_0_3_1_2)
    shapeCasts_S4x4096x8x64_S4x4096x512) z) bitsLt_bf16_f32

theorem products_at (b : Fin 4) (h : Fin 8) (p j : Fin 4096) :
    products q k (ix4 b h p j) = ∑ d : Fin 64, q (ix3 b p (col h d))
      * (Ideal.log (Ideal.ofBits .f32 0x40000000#32) * Ideal.ofBits .f32 0x41000000#32) * k (ix3 b j (col h d)) := by
  have e (x : Fin 64) (hx) : (⟨h.val * 64 + x.val, hx⟩ : Fin 512) = col h x := Fin.ext (by simp only [col]; omega)
  pointwise [products, ln2]
  simp only [e]

theorem forgets_at (b : Fin 4) (h : Fin 8) (p : Fin 4096) :
    forgets f (ix3 b h p) = f (ix3 b h p) * Ideal.log (Ideal.ofBits .f32 0x40000000#32) := by
  pointwise [forgets, ln2]

theorem masked_at (b : Fin 4) (h : Fin 8) (p j : Fin 4096) : masked q k f (ix4 b h p j) = logit q k f b h p j := by
  have e5 : (id (constant (F := Ideal) S_ .f32 0xFF800000#32)) ix0 = Ideal.ofBits .f32 0xFF800000#32 := rfl
  pointwise [masked, scores]
  simp only [products_at, forgets_at, e5, logit]

theorem max_at {S : Shape} (x y : FVec Ideal S .f32) (i : S.Idx) : maximumf x y i = max (x i) (y i) := rfl

theorem tops_at (s : FVec Ideal S4x8x4096x4096 .f32) (b : Fin 4) (h : Fin 8) (p : Fin 4096) :
    tops s (ix3 b h p) = max (Ideal.ofBits .f32 0xFF800000#32)
      (Finset.univ.fold max (Ideal.ofBits .f32 0xFF800000#32) fun j : Fin 4096 => s (ix4 b h p j)) := by
  have e1 : (broadcastInDim S4x8x4096 ![] bcast_S_S4x8x4096 (constant (F := Ideal) S_ .f32 0xFF800000#32)) (ix3 b h p)
      = Ideal.ofBits .f32 0xFF800000#32 := rfl
  have e2 : (constant (F := Ideal) S_ .f32 0xFF800000#32) (Shape.Idx.first h_S_) = Ideal.ofBits .f32 0xFF800000#32 := rfl
  rw [tops, max_at, reduce_max, e1, e2]

theorem weights_at (s : FVec Ideal S4x8x4096x4096 .f32) (b : Fin 4) (h : Fin 8) (p j : Fin 4096) :
    weights s (ix4 b h p j) = Ideal.exp (s (ix4 b h p j) - tops s (ix3 b h p)) := by
  pointwise [weights]

theorem shares_at (w : FVec Ideal S4x8x4096x4096 .f32) (b : Fin 4) (h : Fin 8) (p j : Fin 4096) :
    shares w (ix4 b h p j) = Ideal.div (w (ix4 b h p j)) (∑ i : Fin 4096, w (ix4 b h p i)) := by
  pointwise [shares]

theorem mixed_at (s : FVec Ideal S4x8x4096x4096 .f32) (b : Fin 4) (h : Fin 8) (d : Fin 64) (p : Fin 4096) :
    mixed vt s (ix4 b h d p) = ∑ j : Fin 4096, rowValue vt b h d j * s (ix4 b h p j) := by
  have e (x : Fin 4096) (hx) : (⟨x.val / 256, hx⟩ : Fin 16) = Fin.ofNat 16 (x.val / 256) :=
    Fin.ext (Nat.mod_eq_of_lt hx).symm
  have e' (x : Fin 4096) (hx) : (⟨x.val % 256, hx⟩ : Fin 256) = Fin.ofNat 256 x.val := rfl
  have e2 (hx) : (⟨h.val * 64 + d.val, hx⟩ : Fin 512) = col h d := Fin.ext (by simp only [col]; omega)
  pointwise [mixed]
  simp only [rowValue, e, e', e2]

theorem gated_at (o : FVec Ideal S4x8x64x4096 .f32) (b : Fin 4) (h : Fin 8) (d : Fin 64) (p : Fin 4096) :
    gated z o (ix3 b p (col h d)) = o (ix4 b h d p) * z (ix3 b p (col h d)) := by
  have e1 (hx) : (⟨(col h d).val / 64, hx⟩ : Fin 8) = h := Fin.ext (by simp only [col]; omega)
  have e2 (hx) : (⟨(col h d).val % 64, hx⟩ : Fin 64) = d := Fin.ext (by simp only [col]; omega)
  pointwise [gated]
  simp only [e1, e2]

end steps

variable (m : (ℓ : Loc nD τ sig) → Buf (Elt Ideal) ℓ) (c : Dev nD)

/-- The reference's result is the last step's array. -/
theorem res_eq : res_out0 m c = gated (m ((c : Thread nD τ).loc main_arg4))
    (mixed (m ((c : Thread nD τ).loc main_arg2)) (shares (weights
      (masked (m ((c : Thread nD τ).loc main_arg0)) (m ((c : Thread nD τ).loc main_arg1))
        (m ((c : Thread nD τ).loc main_arg3)))))) := rfl

/-- The reference's result at an index. -/
theorem res_at (b : Fin 4) (p : Fin 4096) (h : Fin 8) (d : Fin 64) (q k : FVec Ideal Rows .bf16)
    (vt : FVec Ideal Pieces .bf16) (f : FVec Ideal Heads .f32) (z : FVec Ideal Rows .f32) :
    gated z (mixed vt (shares (weights (masked q k f)))) (ix3 b p (col h d))
      = (∑ j : Fin 4096, rowValue vt b h d j * Ideal.div (Ideal.exp (logit q k f b h p j - top q k f b h p))
          (∑ i : Fin 4096, Ideal.exp (logit q k f b h p i - top q k f b h p))) * z (ix3 b p (col h d)) := by
  have ht : tops (masked q k f) (ix3 b h p) = top q k f b h p := by
    rw [tops_at, top]
    simp only [masked_at]
  rw [gated_at, mixed_at]
  simp only [shares_at, weights_at, masked_at, ht]

/-! ## The row of scores when queries, keys and log-forgets are finite -/

theorem two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]; norm_num
  rw [h, Ideal.log_coe, if_neg (by norm_num)]

theorem eight : Ideal.ofBits .f32 0x41000000#32 = ((8 : ℝ) : EReal) := by
  simp [Ideal.ofBits, Ideal.ieee, -EReal.coe_mul]; norm_num

theorem eighth : Ideal.ofBits .f32 0x3E000000#32 = ((1 / 8 : ℝ) : EReal) := by
  simp [Ideal.ofBits, Ideal.ieee, -EReal.coe_mul]; norm_num

section finite

variable (q k : FVec Ideal Rows .bf16) (vt : FVec Ideal Pieces .bf16) (f : FVec Ideal Heads .f32)
  (z : FVec Ideal Rows .f32) (Q K : Rows.Idx → ℝ) (G : Heads.Idx → ℝ)
  (hq : ∀ i, q i = (Q i : EReal)) (hk : ∀ i, k i = (K i : EReal)) (hf : ∀ i, f i = (G i : EReal))
  (b : Fin 4) (h : Fin 8) (p : Fin 4096)

/-- The kernel's base-two score as a real number. -/
def realScore (j : ℕ) : ℝ :=
  ∑ d : Fin 64, K (ix3 b (Fin.ofNat 4096 j) (col h d)) * Q (ix3 b p (col h d)) - G (ix3 b h (Fin.ofNat 4096 j))

include hq hk hf

theorem rowScore_eq : rowScore q k f b h p = fun j => (realScore Q K G b h p j : EReal) := by
  funext j
  simp only [rowScore, realScore, hq, hk, hf, ← EReal.coe_mul, coe_sum, ← EReal.coe_sub]

theorem logit_eq (j : Fin 4096) : logit q k f b h p j
    = if (j : ℕ) ≤ p then ((Real.log 2 * (realScore Q K G b h p j + G (ix3 b h p)) : ℝ) : EReal) else ⊥ := by
  have ej : Fin.ofNat 4096 j.val = j := Fin.ext (Nat.mod_eq_of_lt j.isLt)
  rw [logit, sle_small (by have := j.isLt; omega) (by have := p.isLt; omega), two, eight, eighth, neg_inf]
  simp only [hq, hk, hf, ← EReal.coe_mul, coe_sum, ← EReal.coe_sub, ← EReal.coe_add]
  have e : (∑ d : Fin 64, Q (ix3 b p (col h d)) * (Real.log 2 * 8) * K (ix3 b j (col h d))) * (1 / 8)
        + (G (ix3 b h p) * Real.log 2 - G (ix3 b h j) * Real.log 2)
      = Real.log 2 * (realScore Q K G b h p j + G (ix3 b h p)) := by
    rw [realScore, ej, Finset.sum_mul, mul_add, mul_sub, Finset.mul_sum]
    rw [show (∑ d : Fin 64, Q (ix3 b p (col h d)) * (Real.log 2 * 8) * K (ix3 b j (col h d)) * (1 / 8))
        = ∑ d : Fin 64, Real.log 2 * (K (ix3 b j (col h d)) * Q (ix3 b p (col h d))) from
      Finset.sum_congr rfl fun d _ => by ring]
    ring
  rw [e]
  split <;> rfl

/-- The reference's result is the attention, when queries, keys and log-forgets are finite. -/
theorem gated_eq_attend : gated z (mixed vt (shares (weights (masked q k f)))) = attend q k vt f z := by
  funext i
  idx_vars i
  obtain ⟨h, d, rfl⟩ := exists_col i2
  rw [res_at, attend_col, element, rowScore_eq q k f Q K G hq hk hf]
  congr 1
  exact softmax_eq (rowValue vt i0 h d) i1.isLt (realScore Q K G i0 h i1) (G (ix3 i0 h i1)) (logit q k f i0 h i1)
    (logit_eq q k f Q K G hq hk hf i0 h i1) _ (by rw [top, neg_inf, bot_sup_eq])

end finite

end Cert.ReferenceIdeal.Attn

end
-- ==== Proof.lean ====
/-
  The claims: the frames are the generated ones; the results of the attention's kernel and reference are both
  `Attend.attend` of the arguments (Proof/Final.lean and Proof/RefValue.lean), those of the input projection's both the
  arrays of Proof/InSpec.lean (Proof/InFinal.lean and Proof/InRef.lean), those of the output projection's both
  `Out.project` (Proof/OutKernel.lean and Proof/OutRef.lean).
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel3Ideal.Value
public import proofs.«01_k».proof.Proof.Final
public import proofs.«01_k».proof.Proof.InFinal
public import proofs.«01_k».proof.Proof.InRef
public import proofs.«01_k».proof.Proof.OutKernel
public import proofs.«01_k».proof.Proof.OutRef
public import proofs.«01_k».proof.Proof.RefValue
public import Idealize.ShloMosaic.Adequacy
public import Idealize.ShloMosaic.Init

@[expose] public section

noncomputable section

namespace Cert.Proof

open Idealize.ShloMosaic Idealize.SL.Sem Idealize.ShloMosaic.TcCoe

/-- The side conditions of the precondition's operations. -/
theorem preFacts : Cert.Pre_finite.Facts :=
  ⟨Cert.ReferenceIdeal.Gen.bitsLt_bf16_f32, Cert.ReferenceIdeal.Gen.bcast_S_S4x4096x512,
    Cert.ReferenceIdeal.Gen.bcast_S_S4x8x4096⟩

instance : Cert.Pre_finite.Facts := preFacts

theorem pos_inf : Ideal.ofBits .f32 0x7F800000#32 = ⊤ := by simp [Ideal.ofBits, Ideal.ieee]

/-- A number whose absolute value is below infinity is real. -/
theorem real_of_abs {x : EReal} (h : Ideal.cmp .olt (max x (-x)) (Ideal.ofBits .f32 0x7F800000#32) = 1#1) :
    ∃ r : ℝ, x = r := by
  rw [pos_inf] at h
  induction x with
  | bot => simp [Ideal.cmp] at h
  | coe r => exact ⟨r, rfl⟩
  | top => simp [Ideal.cmp] at h

section agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hpre : Cert.Pre_KernelIdeal_finite m) (c : Dev Cert.KernelIdeal.nD)

include hpre in
/-- Under the precondition queries, keys and log-forgets are real numbers. -/
theorem reals :
    (∃ Q : Cert.Attend.Rows.Idx → ℝ, ∀ i, m ((c.tc : Thread Cert.KernelIdeal.nD Cert.KernelIdeal.τ).loc Cert.KernelIdeal.main_arg0) i = (Q i : EReal))
    ∧ (∃ K : Cert.Attend.Rows.Idx → ℝ, ∀ i, m ((c.tc : Thread Cert.KernelIdeal.nD Cert.KernelIdeal.τ).loc Cert.KernelIdeal.main_arg1) i = (K i : EReal))
    ∧ ∃ G : Cert.Attend.Heads.Idx → ℝ, ∀ i, m ((c.tc : Thread Cert.KernelIdeal.nD Cert.KernelIdeal.τ).loc Cert.KernelIdeal.main_arg3) i = (G i : EReal) := by
  obtain ⟨h0, h1, h3⟩ := hpre c
  refine ⟨?_, ?_, ?_⟩
  · choose Q hQ using fun i => real_of_abs (congrFun h0 i)
    exact ⟨Q, hQ⟩
  · choose Q hQ using fun i => real_of_abs (congrFun h1 i)
    exact ⟨Q, hQ⟩
  · choose Q hQ using fun i => real_of_abs (congrFun h3 i)
    exact ⟨Q, hQ⟩

end agree

theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem algebraic : Cert.algebraic_KernelIdeal_ReferenceIdeal_pre_finite := by
  intro m ρ m' ρ' hpre hagree
  refine ⟨fun c => Cert.KernelIdeal.Attn.result m c, ?_, ?_⟩
  · exact (θ_run Cert.KernelIdeal.defs _ _).mono
      (fun r h c => ⟨(h c).1.trans (Cert.KernelIdeal.Attn.final m c), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    obtain ⟨⟨Q, hQ⟩, ⟨K, hK⟩, ⟨G, hG⟩⟩ := reals m hpre c
    obtain ⟨a0, a1, a2, a3, a4⟩ := hagree c
    refine (Cert.ReferenceIdeal.Attn.res_eq m' c).trans ?_
    refine Eq.trans ?_ (Cert.ReferenceIdeal.Attn.gated_eq_attend _ _ _ _ _ Q K G hQ hK hG)
    rw [a0, a1, a2, a3, a4]

theorem frame_reference2 : Cert.quiescent_Reference2Ideal := fun m ρ _ =>
  (θ_run Cert.Reference2Ideal.defs _ _).mono (fun r h => ⟨fun c => (h c).2.2.2.2.2.2.2.2.2,
      Idealize.ShloMosaic.sem_eq_zero_of_no_sems (by decide) r.2⟩)
    (Cert.Reference2Ideal.Value.run (F := Ideal) m ρ)

section inputs

open Cert.Kernel2Ideal.Input Cert.Reference2Ideal.Input

theorem algebraic2 : Cert.algebraic_Kernel2Ideal_Reference2Ideal := by
  intro m ρ m' ρ' _ hagree
  refine ⟨fun c => result11 m c, fun c => result12 m c, fun c => result13 m c, fun c => result14 m c,
    fun c => result15 m c, fun c => result16 m c, fun c => result17 m c, fun c => result18 m c,
    fun c => result19 m c, ?_, ?_⟩
  · refine (θ_run Cert.Kernel2Ideal.defs _ _).mono (fun r h c => ?_)
      (Cert.Kernel2Ideal.Value.run_blocks (F := Ideal) m ρ)
    obtain ⟨h0, h1, h2, h3, h4, h5, h6, h7, h8, kept⟩ := h c
    exact ⟨h0.trans (final11 m c), h1.trans (final12 m c), h2.trans (final13 m c), h3.trans (final14 m c),
      h4.trans (final15 m c), h5.trans (final16 m c), h6.trans (final17 m c), h7.trans (final18 m c),
      h8.trans (final19 m c), kept⟩
  · refine (θ_run Cert.Reference2Ideal.defs _ _).mono (fun r h c => ?_)
      (Cert.Reference2Ideal.Value.run (F := Ideal) m' ρ')
    obtain ⟨h0, h1, h2, h3, h4, h5, h6, h7, h8, kept⟩ := h c
    obtain ⟨a0, a1, a2, a3, a4, a5, a6, a7, a8⟩ := hagree c
    refine ⟨h0.trans ((res0 m' c).trans ?_), h1.trans ((res1 m' c).trans ?_), h2.trans ((pieces_eq _ _ _ _).trans ?_),
      h3.trans ((res3 m' c).trans ?_), h4.trans ((valuesT_eq _ _ _ _).trans ?_), h5.trans ((res5 m' c).trans ?_),
      h6.trans ((res6 m' c).trans ?_), h7.trans ((res7 m' c).trans ?_), h8.trans ((res8 m' c).trans ?_), kept⟩
    · rw [a0, a1, a2, a3, a5]; rfl
    · rw [a0, a1, a2, a3, a6]; rfl
    · rw [a0, a1, a2, a3]; rfl
    · rw [a0, a1, a2, a3, a6]; rfl
    · rw [a0, a1, a2, a3]; rfl
    · rw [a0, a1, a2, a3, a4]; rfl
    · rw [a0, a1, a2, a3]; rfl
    · rw [a0, a1, a2, a3, a7, a8]; rfl
    · rw [a0, a1, a2, a3]; rfl

end inputs

theorem frame_reference3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem algebraic3 : Cert.algebraic_Kernel3Ideal_Reference3Ideal := by
  intro m ρ m' ρ' _ hagree
  refine ⟨fun c => Cert.Kernel3Ideal.Project.result m c, ?_, ?_⟩
  · exact (θ_run Cert.Kernel3Ideal.defs _ _).mono
      (fun r h c => ⟨(h c).1.trans (Cert.Kernel3Ideal.Project.final m c), (h c).2⟩)
      (Cert.Kernel3Ideal.Value.run_blocks (F := Ideal) m ρ)
  · refine (θ_run Cert.Reference3Ideal.defs _ _).mono (fun r h c => ⟨(h c).1.trans ?_, (h c).2⟩)
      (Cert.Reference3Ideal.Value.run (F := Ideal) m' ρ')
    obtain ⟨a0, a1, a2, a3, a4⟩ := hagree c
    refine (Cert.Reference3Ideal.Project.value_eq _ _ _ _ _).trans ?_
    rw [a0, a1, a2, a3, a4]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, preFacts,
  fun m ρ _ => Cert.Kernel.Gen.frame m ρ, fun m ρ _ => Cert.KernelIdeal.Gen.frame m ρ,
  fun m ρ _ => Cert.KernelIdeal.Gen.frame m ρ, frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  trivial, algebraic, trivial, algebraic2, trivial, algebraic3⟩

end Cert.Proof

end
